-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![4, 4096, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![4, 4096, 2048]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 1#32
  let main_c_1 : IVec S_ 32 := constantI S_ 32 2#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0123_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 1#32
  let main_c_1 : IVec S_ 32 := constantI S_ 32 2#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0132_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 1#32
  let main_c_1 : IVec S_ 32 := constantI S_ 32 3#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0132_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 1#32
  let main_c_1 : IVec S_ 32 := constantI S_ 32 3#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0213_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 2#32
  let main_c_1 : IVec S_ 32 := constantI S_ 32 1#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0213_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 2#32
  let main_c_1 : IVec S_ 32 := constantI S_ 32 1#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0231_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 2#32
  let main_c_1 : IVec S_ 32 := constantI S_ 32 3#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0231_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 2#32
  let main_c_1 : IVec S_ 32 := constantI S_ 32 3#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0312_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 3#32
  let main_c_1 : IVec S_ 32 := constantI S_ 32 1#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0312_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 3#32
  let main_c_1 : IVec S_ 32 := constantI S_ 32 1#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0321_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 0#32
  let main_c_0 : IVec S_ 32 := constantI S_ 32 3#32
  let main_c_1 : IVec S_ 32 := constantI S_ 32 2#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_0321_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 0#32
  let main_c_0 : IVec S_ 32 := constantI S_ 32 3#32
  let main_c_1 : IVec S_ 32 := constantI S_ 32 2#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1023_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 0#32
  let main_c_1 : IVec S_ 32 := constantI S_ 32 2#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1023_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 0#32
  let main_c_1 : IVec S_ 32 := constantI S_ 32 2#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1032_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 0#32
  let main_c_1 : IVec S_ 32 := constantI S_ 32 3#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1032_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 0#32
  let main_c_1 : IVec S_ 32 := constantI S_ 32 3#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1203_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 2#32
  let main_c_1 : IVec S_ 32 := constantI S_ 32 0#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1203_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 2#32
  let main_c_1 : IVec S_ 32 := constantI S_ 32 0#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1230_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 2#32
  let main_c_1 : IVec S_ 32 := constantI S_ 32 3#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1230_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 2#32
  let main_c_1 : IVec S_ 32 := constantI S_ 32 3#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1302_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 3#32
  let main_c_1 : IVec S_ 32 := constantI S_ 32 0#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1302_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 3#32
  let main_c_1 : IVec S_ 32 := constantI S_ 32 0#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1320_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 1#32
  let main_c_0 : IVec S_ 32 := constantI S_ 32 3#32
  let main_c_1 : IVec S_ 32 := constantI S_ 32 2#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_1320_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 1#32
  let main_c_0 : IVec S_ 32 := constantI S_ 32 3#32
  let main_c_1 : IVec S_ 32 := constantI S_ 32 2#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2013_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 0#32
  let main_c_1 : IVec S_ 32 := constantI S_ 32 1#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2013_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 0#32
  let main_c_1 : IVec S_ 32 := constantI S_ 32 1#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2031_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 0#32
  let main_c_1 : IVec S_ 32 := constantI S_ 32 3#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2031_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 0#32
  let main_c_1 : IVec S_ 32 := constantI S_ 32 3#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2103_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 1#32
  let main_c_1 : IVec S_ 32 := constantI S_ 32 0#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2103_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 1#32
  let main_c_1 : IVec S_ 32 := constantI S_ 32 0#32
  let main_c_2 : IVec S_ 32 := constantI S_ 32 3#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2130_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 1#32
  let main_c_1 : IVec S_ 32 := constantI S_ 32 3#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2130_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 1#32
  let main_c_1 : IVec S_ 32 := constantI S_ 32 3#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2301_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 3#32
  let main_c_1 : IVec S_ 32 := constantI S_ 32 0#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2301_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 3#32
  let main_c_1 : IVec S_ 32 := constantI S_ 32 0#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2310_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 2#32
  let main_c_0 : IVec S_ 32 := constantI S_ 32 3#32
  let main_c_1 : IVec S_ 32 := constantI S_ 32 1#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_2310_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 2#32
  let main_c_0 : IVec S_ 32 := constantI S_ 32 3#32
  let main_c_1 : IVec S_ 32 := constantI S_ 32 1#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3012_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 0#32
  let main_c_1 : IVec S_ 32 := constantI S_ 32 1#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3012_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 0#32
  let main_c_1 : IVec S_ 32 := constantI S_ 32 1#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3021_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 0#32
  let main_c_1 : IVec S_ 32 := constantI S_ 32 2#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3021_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 0#32
  let main_c_1 : IVec S_ 32 := constantI S_ 32 2#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3102_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 1#32
  let main_c_1 : IVec S_ 32 := constantI S_ 32 0#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3102_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 1#32
  let main_c_1 : IVec S_ 32 := constantI S_ 32 0#32
  let main_c_2 : IVec S_ 32 := constantI S_ 32 2#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3120_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 1#32
  let main_c_1 : IVec S_ 32 := constantI S_ 32 2#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3120_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 1#32
  let main_c_1 : IVec S_ 32 := constantI S_ 32 2#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3201_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 2#32
  let main_c_1 : IVec S_ 32 := constantI S_ 32 0#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3201_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 2#32
  let main_c_1 : IVec S_ 32 := constantI S_ 32 0#32
  let main_c_2 : IVec S_ 32 := constantI S_ 32 1#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3210_Kernel.lean ====
abbrev S1x4096x2048 : Shape := ⟨3, ![1, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S1x4096x2048 .bf16) (main_arg1 : IVec S4 32) : IVec S4 1 :=
  let main_c : IVec S_ 32 := constantI S_ 32 3#32
  let main_c_0 : IVec S_ 32 := constantI S_ 32 2#32
  let main_c_1 : IVec S_ 32 := constantI S_ 32 1#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Pre_pi_is_3210_ReferenceIdeal.lean ====
abbrev S4x4096x2048 : Shape := ⟨3, ![4, 4096, 2048]⟩
abbrev S4 : Shape := ⟨1, ![4]⟩
abbrev S_ : Shape := ⟨0, ![]⟩
abbrev S1 : Shape := ⟨1, ![1]⟩

class Facts : Prop where
  bcast_S_S1 : S_.BroadcastsInDim S1 (![] : Fin 0 → Fin S1.rank)
  concatenates_S1_S1_S1_S1_S4_d0 : Shape.Concatenates [S1, S1, S1, S1] S4 0

variable [Facts]

def fn {F : FTy → Type} [FloatOps F] (main_arg0 : FVec F S4x4096x2048 .bf16) (main_arg1 : IVec S4 32) : IVec S4 1 :=
  let main_c : IVec S_ 32 := constantI S_ 32 3#32
  let main_c_0 : IVec S_ 32 := constantI S_ 32 2#32
  let main_c_1 : IVec S_ 32 := constantI S_ 32 1#32
  let main_c_2 : IVec S_ 32 := constantI S_ 32 0#32
  let main_v0 : IVec S1 32 := broadcastInDim S1 ![] bcast_S_S1 main_c
  let main_v1 : IVec S1 32 := broadcastInDim S1 ![] bcast_S_S1 main_c_0
  let main_v2 : IVec S1 32 := broadcastInDim S1 ![] bcast_S_S1 main_c_1
  let main_v3 : IVec S1 32 := broadcastInDim S1 ![] bcast_S_S1 main_c_2
  let main_v4 : IVec S4 32 := concatenate S4 0 [⟨S1, main_v0⟩, ⟨S1, main_v1⟩, ⟨S1, main_v2⟩, ⟨S1, main_v3⟩] concatenates_S1_S1_S1_S1_S4_d0
  let main_v5 : IVec S4 1 := cmpi .eq main_arg1 main_v4
  main_v5
-- ==== Kernel.lean ====
abbrev S1x4096x2048 : Shape := ⟨3, ![1, 4096, 2048]⟩
abbrev S4 : Shape := ⟨1, ![4]⟩
abbrev S2x512x2048 : Shape := ⟨3, ![2, 512, 2048]⟩
abbrev S8x512x2048 : Shape := ⟨3, ![8, 512, 2048]⟩
abbrev S2 : Shape := ⟨1, ![2]⟩
abbrev S8 : Shape := ⟨1, ![8]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 3
  | .vmem => 2
  | .smem => 1
  | _ => 0

abbrev bufTy : (tb : Table) → Fin (tcTables nBuf tb) → BufTy
  | .hbm, ⟨0, _⟩ => ⟨S1x4096x2048, .bf16⟩
  | .hbm, ⟨1, _⟩ => ⟨S4, .i32⟩
  | .hbm, ⟨2, _⟩ => ⟨S1x4096x2048, .bf16⟩
  | .local _ .vmem, ⟨0, _⟩ => ⟨S2x512x2048, .bf16⟩
  | .local _ .vmem, ⟨1, _⟩ => ⟨S8x512x2048, .bf16⟩
  | .local _ .smem, ⟨0, _⟩ => ⟨S4, .i32⟩
  | _, _ => ⟨S1x4096x2048, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v10 : BitVec 32) : Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v21 : BitVec 32 := Scalar.muli v2 c8_i32_5
  let v22 : BitVec 32 := Scalar.addi c0_i32_6 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v23 : BitVec 32 := Scalar.muli v5 c4_i32_7
  let v24 : BitVec 32 := Scalar.addi v22 v23
  let c1_i32_8 : BitVec 32 := 1#32
  let v25 : BitVec 32 := Scalar.muli v10 c1_i32_8
  let v26 : BitVec 32 := Scalar.addi v24 v25
  v26.toNat

def k0_dev2 (d0 : Dev nD) (v11 : BitVec 32) (v13 : BitVec 32) (v15 : BitVec 32) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v27 : BitVec 32 := Scalar.muli v2 c8_i32_10
  let v28 : BitVec 32 := Scalar.addi c0_i32_11 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v29 : BitVec 32 := Scalar.muli v5 c4_i32_12
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 1 := Scalar.cmpi .eq v11 v8
  let c0_i32 : BitVec 32 := 0#32
  let v14 : BitVec 1 := Scalar.cmpi .eq v13 v8
  let c1_i32_3 : BitVec 32 := 1#32
  let v16 : BitVec 1 := Scalar.cmpi .eq v15 v8
  let c2_i32_2 : BitVec 32 := 2#32
  let c3_i32 : BitVec 32 := 3#32
  let v17 : BitVec 32 := Scalar.select v16 c2_i32_2 c3_i32
  let v18 : BitVec 32 := Scalar.select v14 c1_i32_3 v17
  let v19 : BitVec 32 := Scalar.select v12 c0_i32 v18
  let c1_i32_13 : BitVec 32 := 1#32
  let v31 : BitVec 32 := Scalar.muli v19 c1_i32_13
  let v32 : BitVec 32 := Scalar.addi v30 v31
  v32.toNat

def k0_chk2 (d0 : Dev nD) (v11 : BitVec 32) (v13 : BitVec 32) (v15 : BitVec 32) : Prop :=
  ((k0_dev2 d0 v11 v13 v15) < nD)
theorem k0_dev2_lt : ∀ (d0 : Dev nD) (v11 : BitVec 32) (v13 : BitVec 32) (v15 : BitVec 32) (k0_hw2 : k0_chk2 d0 v11 v13 v15), (k0_dev2 d0 v11 v13 v15) < nD := fun d0 v11 v13 v15 k0_hw2 => k0_hw2

def k0_dev3 (d0 : Dev nD) (v10 : BitVec 32) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v56 : BitVec 32 := Scalar.muli v2 c8_i32_45
  let v57 : BitVec 32 := Scalar.addi c0_i32_46 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v58 : BitVec 32 := Scalar.muli v5 c4_i32_47
  let v59 : BitVec 32 := Scalar.addi v57 v58
  let c1_i32_48 : BitVec 32 := 1#32
  let v60 : BitVec 32 := Scalar.muli v10 c1_i32_48
  let v61 : BitVec 32 := Scalar.addi v59 v60
  v61.toNat
def k0_dev4 (d0 : Dev nD) (v10 : BitVec 32) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v87 : BitVec 32 := Scalar.muli v2 c8_i32_76
  let v88 : BitVec 32 := Scalar.addi c0_i32_77 v87
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v89 : BitVec 32 := Scalar.muli v5 c4_i32_78
  let v90 : BitVec 32 := Scalar.addi v88 v89
  let c1_i32_79 : BitVec 32 := 1#32
  let v91 : BitVec 32 := Scalar.muli v10 c1_i32_79
  let v92 : BitVec 32 := Scalar.addi v90 v91
  v92.toNat
def k0_dev5 (d0 : Dev nD) (v10 : BitVec 32) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v118 : BitVec 32 := Scalar.muli v2 c8_i32_107
  let v119 : BitVec 32 := Scalar.addi c0_i32_108 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v120 : BitVec 32 := Scalar.muli v5 c4_i32_109
  let v121 : BitVec 32 := Scalar.addi v119 v120
  let c1_i32_110 : BitVec 32 := 1#32
  let v122 : BitVec 32 := Scalar.muli v10 c1_i32_110
  let v123 : BitVec 32 := Scalar.addi v121 v122
  v123.toNat
def k0_dev6 (d0 : Dev nD) (v10 : BitVec 32) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v149 : BitVec 32 := Scalar.muli v2 c8_i32_137
  let v150 : BitVec 32 := Scalar.addi c0_i32_138 v149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_139 : BitVec 32 := 4#32
  let v151 : BitVec 32 := Scalar.muli v5 c4_i32_139
  let v152 : BitVec 32 := Scalar.addi v150 v151
  let c1_i32_140 : BitVec 32 := 1#32
  let v153 : BitVec 32 := Scalar.muli v10 c1_i32_140
  let v154 : BitVec 32 := Scalar.addi v152 v153
  v154.toNat
def k0_dev7 (d0 : Dev nD) (v10 : BitVec 32) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v180 : BitVec 32 := Scalar.muli v2 c8_i32_167
  let v181 : BitVec 32 := Scalar.addi c0_i32_168 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v182 : BitVec 32 := Scalar.muli v5 c4_i32_169
  let v183 : BitVec 32 := Scalar.addi v181 v182
  let c1_i32_170 : BitVec 32 := 1#32
  let v184 : BitVec 32 := Scalar.muli v10 c1_i32_170
  let v185 : BitVec 32 := Scalar.addi v183 v184
  v185.toNat
def k0_dev8 (d0 : Dev nD) (v10 : BitVec 32) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v211 : BitVec 32 := Scalar.muli v2 c8_i32_196
  let v212 : BitVec 32 := Scalar.addi c0_i32_197 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v213 : BitVec 32 := Scalar.muli v5 c4_i32_198
  let v214 : BitVec 32 := Scalar.addi v212 v213
  let c1_i32_199 : BitVec 32 := 1#32
  let v215 : BitVec 32 := Scalar.muli v10 c1_i32_199
  let v216 : BitVec 32 := Scalar.addi v214 v215
  v216.toNat
def k0_dev9 (d0 : Dev nD) (v10 : BitVec 32) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v242 : BitVec 32 := Scalar.muli v2 c8_i32_225
  let v243 : BitVec 32 := Scalar.addi c0_i32_226 v242
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_227 : BitVec 32 := 4#32
  let v244 : BitVec 32 := Scalar.muli v5 c4_i32_227
  let v245 : BitVec 32 := Scalar.addi v243 v244
  let c1_i32_228 : BitVec 32 := 1#32
  let v246 : BitVec 32 := Scalar.muli v10 c1_i32_228
  let v247 : BitVec 32 := Scalar.addi v245 v246
  v247.toNat
def k0_dev10 (d0 : Dev nD) (v10 : BitVec 32) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v267 : BitVec 32 := Scalar.muli v2 c8_i32_248
  let v268 : BitVec 32 := Scalar.addi c0_i32_249 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v269 : BitVec 32 := Scalar.muli v5 c4_i32_250
  let v270 : BitVec 32 := Scalar.addi v268 v269
  let c1_i32_251 : BitVec 32 := 1#32
  let v271 : BitVec 32 := Scalar.muli v10 c1_i32_251
  let v272 : BitVec 32 := Scalar.addi v270 v271
  v272.toNat

def k0_chk1 (d0 : Dev nD) (v10 : BitVec 32) : Prop :=
  ((k0_dev1 d0 v10) < nD) ∧
  ((k0_dev3 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev6_lt : ∀ (d0 : Dev nD) (v10 : BitVec 32) (k0_hw1 : k0_chk1 d0 v10), (k0_dev6 d0 v10) < nD := fun d0 v10 k0_hw1 => k0_hw1.2.2.2.2.1
theorem k0_dev7_lt : ∀ (d0 : Dev nD) (v10 : BitVec 32) (k0_hw1 : k0_chk1 d0 v10), (k0_dev7 d0 v10) < nD := fun d0 v10 k0_hw1 => k0_hw1.2.2.2.2.2.1
theorem k0_dev8_lt : ∀ (d0 : Dev nD) (v10 : BitVec 32) (k0_hw1 : k0_chk1 d0 v10), (k0_dev8 d0 v10) < nD := fun d0 v10 k0_hw1 => k0_hw1.2.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x2048 : Shape := ⟨3, ![4, 4096, 2048]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x4096x2048, .bf16⟩
  | .hbm, ⟨14, _⟩ => ⟨S4x4096x2048, .f32⟩
  | .hbm, ⟨15, _⟩ => ⟨S4x4096x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Slabs.lean ====
/-
# The slabs the exchange moves

The kernel moves its block of `x` in eight slabs of 512 rows: from its HBM argument into one of two VMEM slots, from the
slot into one of eight VMEM staging slabs, and from the staging slab into a slab of the HBM result of another device.
This module names the slabs and their semaphores by slab number, says which elements they are, and reads a slab seen
with its leading unit axis dropped.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Batch

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type}

/-! ## The resource algebra: the pipeline library's copy, the exchange's rounds, and the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds sit left in the right factor. -/
abbrev ER : Emb UB (MT nD τ sig Unit (Elt F) ℕ UU ℕ) := (Emb.inl : Emb UB (UB × Counters)).trans embR
instance ER_landsIn : (ER : Emb UB 𝕄).LandsIn (upEmb : UEmb _ 𝕄) := inferInstance
abbrev EC : UEmb Counters (MT nD τ sig Unit (Elt F) ℕ UU ℕ) := countersEmb (U := UU)

/-! ## A memref with unit axes dropped, owned -/

section Squeeze

variable {c : Thread nD τ} {sp : Space} {s s' : Shape} {e : EltTy}

/-- Owning a memref with unit axes dropped at contents re-indexed in row-major order is owning the memref. -/
theorem owns_squeeze (mr : Memref sig c.2.kind sp s e) (h : s.Squeezes s') (q : PosShare TreeShare) (X : s.Idx → Elt F e) :
    (owns c (mr.squeeze s' h) q (fun i => X (Shape.reshapeEquiv h.numel_eq i)) : sProp 𝕄) = owns c mr q X := by
  have hread (f : mr.view.ty.Contents (Elt F)) :
      (mr.squeeze s' h).view.read (Elt F) f = fun i => mr.view.read (Elt F) f (Shape.reshapeEquiv h.numel_eq i) := rfl
  have hiff (f : mr.view.ty.Contents (Elt F)) :
      ((mr.squeeze s' h).view.read (Elt F) f = fun i => X (Shape.reshapeEquiv h.numel_eq i)) ↔ mr.view.read (Elt F) f = X := by
    rw [hread]
    constructor
    · intro hf
      funext j
      have := congrFun hf ((Shape.reshapeEquiv h.numel_eq).symm j)
      simpa only [Equiv.apply_symm_apply] using this
    · rintro rfl; rfl
  have hset : (mr.squeeze s' h).view.set = mr.view.set := View.set_reshape _ _
  have h₁ : (owns c (mr.squeeze s' h) q (fun i => X (Shape.reshapeEquiv h.numel_eq i)) : sProp 𝕄) ⊢ owns c mr q X := by
    unfold owns
    iintro ⟨%f, %hf, H⟩
    iexists f
    isplitr; · ipureintro; exact (hiff f).mp hf
    rw [← hset]; iexact H
  have h₂ : (owns c mr q X : sProp 𝕄) ⊢ owns c (mr.squeeze s' h) q (fun i => X (Shape.reshapeEquiv h.numel_eq i)) := by
    unfold owns
    iintro ⟨%f, %hf, H⟩
    iexists f
    isplitr; · ipureintro; exact (hiff f).mpr hf
    rw [hset]; iexact H
  exact BI.equiv_iff.mp ⟨h₁, h₂⟩

end Squeeze

/-! ## The slabs -/

theorem inbX (k : Fin 8) : ∀ a, (![0, 512 * k.val, 0] : Fin 3 → ℕ) a + S1x512x2048.size a ≤ S1x4096x2048.size a := by
  revert k; decide
theorem inbB (k : Fin 8) : ∀ a, (![k.val, 0, 0] : Fin 3 → ℕ) a + S1x512x2048.size a ≤ S8x512x2048.size a := by
  revert k; decide
theorem inbF (j : Fin 2) : ∀ a, (![j.val, 0, 0] : Fin 3 → ℕ) a + S1x512x2048.size a ≤ S2x512x2048.size a := by
  revert j; decide
theorem inbS8 (k : Fin 8) : ∀ a, (![k.val] : Fin 1 → ℕ) a + S1.size a ≤ S8.size a := by
  revert k; decide
theorem inbS2 (j : Fin 2) : ∀ a, (![j.val] : Fin 1 → ℕ) a + S1.size a ≤ S2.size a := by
  revert j; decide

/-- Slab `k` of an HBM block, of the staging slabs, of the two slots. -/
abbrev xR (k : Fin 8) : Rect S1x4096x2048 := Rect.unit (s := S1x4096x2048) ![0, 512 * k.val, 0] S1x512x2048.size (inbX k)
abbrev bR (k : Fin 8) : Rect S8x512x2048 := Rect.unit (s := S8x512x2048) ![k.val, 0, 0] S1x512x2048.size (inbB k)
abbrev fR (j : Fin 2) : Rect S2x512x2048 := Rect.unit (s := S2x512x2048) ![j.val, 0, 0] S1x512x2048.size (inbF j)

abbrev xA : Memref sig .tc .hbm S1x4096x2048 .bf16 := Memref.whole main_arg0
abbrev oA : Memref sig .tc .hbm S1x4096x2048 .bf16 := Memref.whole main_v1
abbrev fA : Memref sig .tc .vmem S2x512x2048 .bf16 := Memref.whole cc0_scratch0
abbrev bA : Memref sig .tc .vmem S8x512x2048 .bf16 := Memref.whole cc0_scratch1

abbrev xS (k : Fin 8) : Memref sig .tc .hbm S1x512x2048 .bf16 := xA.slice (xR k) (fun _ => rfl)
abbrev oS (k : Fin 8) : Memref sig .tc .hbm S1x512x2048 .bf16 := oA.slice (xR k) (fun _ => rfl)
abbrev fS (j : Fin 2) : Memref sig .tc .vmem S1x512x2048 .bf16 := fA.slice (fR j) (fun _ => rfl)
abbrev bS (k : Fin 8) : Memref sig .tc .vmem S1x512x2048 .bf16 := bA.slice (bR k) (fun _ => rfl)

/-- The same slabs as the transfers name them: two-axis. -/
abbrev xQ (k : Fin 8) : Memref sig .tc .hbm S512x2048 .bf16 := (xS k).squeeze S512x2048 squeezes_S1x512x2048_S512x2048
abbrev oQ (k : Fin 8) : Memref sig .tc .hbm S512x2048 .bf16 := (oS k).squeeze S512x2048 squeezes_S1x512x2048_S512x2048
abbrev fQ (j : Fin 2) : Memref sig .tc .vmem S512x2048 .bf16 := (fS j).squeeze S512x2048 squeezes_S1x512x2048_S512x2048
abbrev bQ (k : Fin 8) : Memref sig .tc .vmem S512x2048 .bf16 := (bS k).squeeze S512x2048 squeezes_S1x512x2048_S512x2048

/-- The semaphores: of slot `j`'s fetch, of slab `k`'s departure and of its arrival. -/
abbrev fSem (j : Fin 2) : DmaSem sig :=
  ((cc0_scratch2.slice (Rect.unit (s := S2) ![j.val] S1.size (inbS2 j))).squeeze S_ squeezes_S1_S_).sem
abbrev sSem (k : Fin 8) : DmaSem sig :=
  ((cc0_scratch3.slice (Rect.unit (s := S8) ![k.val] S1.size (inbS8 k))).squeeze S_ squeezes_S1_S_).sem
abbrev rSem (k : Fin 8) : DmaSem sig :=
  ((cc0_scratch4.slice (Rect.unit (s := S8) ![k.val] S1.size (inbS8 k))).squeeze S_ squeezes_S1_S_).sem
abbrev barS : Sem sig := (SemArray.scalar (sig.barrier 0 rfl) : Sems sig S_).sem

/-- What a slab's transfer counts. -/
abbrev N : ℕ := (oQ 0).view.dmaCredit
theorem N_pos : 0 < N := View.dmaCredit_pos _ (by decide)

/-- Contents of a slab, as the two-axis view reads them. -/
abbrev flat {α : Type} (X : S1x512x2048.Idx → α) : S512x2048.Idx → α :=
  fun i => X (Shape.reshapeEquiv squeezes_S1x512x2048_S512x2048.numel_eq i)

/-! ## The slabs tile their buffers -/

theorem xR_mem (k : Fin 8) (x : S1x4096x2048.Idx) : x ∈ (xR k).set ↔ (x 1).val / 512 = k.val := by
  rw [Rect.mem_set_unit]
  have h0 : (x 0).val < 1 := (x 0).isLt
  have h1 : (x 1).val < 4096 := (x 1).isLt
  have h2 : (x 2).val < 2048 := (x 2).isLt
  constructor
  · intro h
    have h' : 512 * k.val ≤ (x 1).val ∧ (x 1).val < 512 * k.val + 512 := h 1
    omega
  · intro h a
    fin_cases a
    · show 0 ≤ (x 0).val ∧ (x 0).val < 0 + 1; omega
    · show 512 * k.val ≤ (x 1).val ∧ (x 1).val < 512 * k.val + 512; omega
    · show 0 ≤ (x 2).val ∧ (x 2).val < 0 + 2048; omega

theorem bR_mem (k : Fin 8) (x : S8x512x2048.Idx) : x ∈ (bR k).set ↔ (x 0).val = k.val := by
  rw [Rect.mem_set_unit]
  have h1 : (x 1).val < 512 := (x 1).isLt
  have h2 : (x 2).val < 2048 := (x 2).isLt
  constructor
  · intro h
    have h' : k.val ≤ (x 0).val ∧ (x 0).val < k.val + 1 := h 0
    omega
  · intro h a
    fin_cases a
    · show k.val ≤ (x 0).val ∧ (x 0).val < k.val + 1; omega
    · show 0 ≤ (x 1).val ∧ (x 1).val < 0 + 512; omega
    · show 0 ≤ (x 2).val ∧ (x 2).val < 0 + 2048; omega

theorem fR_mem (j : Fin 2) (x : S2x512x2048.Idx) : x ∈ (fR j).set ↔ (x 0).val = j.val := by
  rw [Rect.mem_set_unit]
  have h1 : (x 1).val < 512 := (x 1).isLt
  have h2 : (x 2).val < 2048 := (x 2).isLt
  constructor
  · intro h
    have h' : j.val ≤ (x 0).val ∧ (x 0).val < j.val + 1 := h 0
    omega
  · intro h a
    fin_cases a
    · show j.val ≤ (x 0).val ∧ (x 0).val < j.val + 1; omega
    · show 0 ≤ (x 1).val ∧ (x 1).val < 0 + 512; omega
    · show 0 ≤ (x 2).val ∧ (x 2).val < 0 + 2048; omega

/-- A family of rectangles told apart by the value of a coordinate function is disjoint. -/
theorem disjoint_of_mem {s : Shape} {n : ℕ} {r : Fin n → Rect s} {g : s.Idx → ℕ} (h : ∀ k x, x ∈ (r k).set ↔ g x = k.val) :
    ∀ k k', k ≠ k' → Disjoint (r k).set (r k').set := fun k k' hne =>
  Finset.disjoint_left.mpr fun x hx hx' => hne (Fin.ext (((h k x).mp hx).symm.trans ((h k' x).mp hx')))

/-- It covers when the function's values are slab numbers. -/
theorem cover_of_mem {s : Shape} {n : ℕ} {r : Fin n → Rect s} {g : s.Idx → ℕ} (h : ∀ k x, x ∈ (r k).set ↔ g x = k.val)
    (hg : ∀ x, g x < n) : (Finset.univ.biUnion fun k => (r k).set) = (Finset.univ : Finset s.Idx) :=
  Finset.eq_univ_of_forall fun x => Finset.mem_biUnion.mpr ⟨⟨g x, hg x⟩, Finset.mem_univ _, (h _ x).mpr rfl⟩

theorem xR_disjoint : ∀ k k', k ≠ k' → Disjoint (xR k).set (xR k').set := disjoint_of_mem xR_mem
theorem bR_disjoint : ∀ k k', k ≠ k' → Disjoint (bR k).set (bR k').set := disjoint_of_mem bR_mem
theorem fR_disjoint : ∀ k k', k ≠ k' → Disjoint (fR k).set (fR k').set := disjoint_of_mem fR_mem
theorem xR_cover : (Finset.univ.biUnion fun k => (xR k).set) = (Finset.univ : Finset S1x4096x2048.Idx) :=
  cover_of_mem xR_mem fun x => by have h : (x 1).val < 4096 := (x 1).isLt; omega
theorem bR_cover : (Finset.univ.biUnion fun k => (bR k).set) = (Finset.univ : Finset S8x512x2048.Idx) :=
  cover_of_mem bR_mem fun x => (x 0).isLt
theorem fR_cover : (Finset.univ.biUnion fun k => (fR k).set) = (Finset.univ : Finset S2x512x2048.Idx) :=
  cover_of_mem fR_mem fun x => (x 0).isLt

section Tile

variable {c : Thread nD τ} {sp : Space} {s : Shape} {e : EltTy} {n : ℕ}

/-- The contents forgotten. -/
theorem owns_some (mr : Memref sig c.2.kind sp s e) (X : s.Idx → Elt F e) :
    (owns c mr fullShare X : sProp 𝕄) ⊢ iprop(∃ X, owns c mr fullShare X) := by
  iintro H; iexists _; iexact H

/-- A buffer owned at some contents is every slab of a tiling owned at some contents. -/
theorem some_slabs (mr : Memref sig c.2.kind sp s e) (r : Fin n → Rect s) (hr : ∀ t a, (r t).stride a = 1)
    (hd : ∀ t t', t ≠ t' → Disjoint (r t).set (r t').set) (hcov : (Finset.univ.biUnion fun t => (r t).set) = Finset.univ) :
    (iprop(∃ X, owns c mr fullShare X) : sProp 𝕄)
      ⊢ bigSep Finset.univ fun t => iprop(∃ X, owns c (mr.slice (r t) (hr t)) fullShare X) := by
  iintro ⟨%X, H⟩
  have h : (bigSep Finset.univ fun t => owns c (mr.slice (r t) (hr t)) fullShare (fun j => X ((r t).emb j)) : sProp 𝕄)
      ⊢ bigSep Finset.univ fun t => iprop(∃ X, owns c (mr.slice (r t) (hr t)) fullShare X) :=
    bigSep_mono fun t _ => owns_some (mr.slice (r t) (hr t)) _
  iapply h
  iapply (owns_rects c mr fullShare r hr hd hcov X) $$ H

end Tile

/-! ## Families walked slab by slab -/

section Walk

variable {M : Type} [URA M] {n : ℕ}

/-- The members of a family from number `k` on. -/
abbrev From (k : ℕ) (Φ : Fin n → sProp M) : sProp M := bigSep (Finset.univ.filter fun t : Fin n => k ≤ t.val) Φ
/-- The members below number `k`. -/
abbrev Upto (k : ℕ) (Φ : Fin n → sProp M) : sProp M := bigSep (Finset.univ.filter fun t : Fin n => t.val < k) Φ

theorem from_zero (Φ : Fin n → sProp M) : From 0 Φ = bigSep Finset.univ Φ := by
  unfold From; rw [Finset.filter_true_of_mem fun _ _ => Nat.zero_le _]
theorem from_last (Φ : Fin n → sProp M) : From n Φ = iprop(emp) := by
  unfold From; rw [Finset.filter_false_of_mem fun t _ => Nat.not_le.mpr t.isLt, bigSep_empty]; rfl
theorem upto_zero (Φ : Fin n → sProp M) : Upto 0 Φ = iprop(emp) := by
  unfold Upto; rw [Finset.filter_false_of_mem fun t _ => Nat.not_lt_zero _, bigSep_empty]; rfl
theorem upto_last (Φ : Fin n → sProp M) : Upto n Φ = bigSep Finset.univ Φ := by
  unfold Upto; rw [Finset.filter_true_of_mem fun t _ => t.isLt]

/-- The next member leaves the family still to come; -/
theorem from_step (Φ : Fin n → sProp M) (k : ℕ) (hk : k < n) : From k Φ = iprop(Φ ⟨k, hk⟩ ∗ From (k + 1) Φ) := by
  have : (Finset.univ.filter fun t : Fin n => k ≤ t.val) = insert ⟨k, hk⟩ (Finset.univ.filter fun t : Fin n => k + 1 ≤ t.val) := by
    ext t; simp only [Finset.mem_filter, Finset.mem_univ, true_and, Finset.mem_insert, Fin.ext_iff]; omega
  unfold From; rw [this, bigSep_insert (by simp)]; rfl

/-- and joins the family done. -/
theorem upto_step (Φ : Fin n → sProp M) (k : ℕ) (hk : k < n) : Upto (k + 1) Φ = iprop(Φ ⟨k, hk⟩ ∗ Upto k Φ) := by
  have : (Finset.univ.filter fun t : Fin n => t.val < k + 1) = insert ⟨k, hk⟩ (Finset.univ.filter fun t : Fin n => t.val < k) := by
    ext t; simp only [Finset.mem_filter, Finset.mem_univ, true_and, Finset.mem_insert, Fin.ext_iff]; omega
  unfold Upto; rw [this, bigSep_insert (by simp)]; rfl

end Walk

end Cert.RouteProof

end
-- ==== Proof.Protocol.lean ====
/-
# The protocol of the exchange

Device `c` sends its block to `π c` and receives that of `π⁻¹ c`, for a permutation `π` of the devices.

* Barrier cell, round 0, two duties of one unit. `false` is paid by `π⁻¹ c`, whose first signal names `c`, and hands over
  nothing. `true` is paid by `π c`, whose second signal names `c`, and hands over the eight slabs of `π c`'s result at any
  contents: the destination of `c`'s transfers. `c` waits for both units before its first transfer.
* Send cell `k`, round 0, one duty of a slab's credit: paid by the departure of slab `k`, handing back `c`'s staging slab.
* Receive cell `k`, round 0, one duty of a slab's credit: paid by the landing of slab `k` from `π⁻¹ c`, handing `c` the slab
  of its result at the contents of that slab of `π⁻¹ c`'s block.

The two fetch semaphores count local copies and carry no round.
-/
module

public import proofs.«01_k».proof.Proof.Slabs

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type}

local notation "𝕄" => MT nD τ sig Unit (Elt F) ℕ UU ℕ

variable (m : (ℓ : Loc nD τ sig) → Buf (Elt F) ℓ) (π : Equiv.Perm (Dev nD))

/-! ## Cells -/

abbrev barCell (c : Dev nD) : GSem nD τ sig := ((c : Thread nD τ), .reg barS)
abbrev sendCell (c : Dev nD) (k : Fin 8) : GSem nD τ sig := ((c : Thread nD τ), .dma (sSem k))
abbrev recvCell (c : Dev nD) (k : Fin 8) : GSem nD τ sig := ((c : Thread nD τ), .dma (rSem k))
abbrev fetchCell (c : Dev nD) (j : Fin 2) : GSem nD τ sig := ((c : Thread nD τ), .dma (fSem j))

/-- The cells of the rounds on one device: barrier, sends, receives. -/
abbrev Port : Type := Unit ⊕ Fin 8 ⊕ Fin 8
abbrev psem : Port → SemLoc sig
  | .inl _ => .reg barS
  | .inr (.inl k) => .dma (sSem k)
  | .inr (.inr k) => .dma (rSem k)
abbrev pcell (cp : Dev nD × Port) : GSem nD τ sig := ((cp.1 : Thread nD τ), psem cp.2)
/-- The kernel's own scoped semaphores. -/
abbrev osem : Fin 2 ⊕ Fin 8 ⊕ Fin 8 → SemLoc sig
  | .inl j => .dma (fSem j)
  | .inr (.inl k) => .dma (sSem k)
  | .inr (.inr k) => .dma (rSem k)

theorem sSem_inj : ∀ k k' : Fin 8, SemLoc.dma (sig := sig) (sSem k) = .dma (sSem k') → k = k' := by decide
theorem rSem_inj : ∀ k k' : Fin 8, SemLoc.dma (sig := sig) (rSem k) = .dma (rSem k') → k = k' := by decide
theorem sSem_ne_rSem : ∀ k k' : Fin 8, SemLoc.dma (sig := sig) (sSem k) ≠ .dma (rSem k') := by decide
theorem fSem_ne_rSem : ∀ (j : Fin 2) (k : Fin 8), SemLoc.dma (sig := sig) (fSem j) ≠ .dma (rSem k) := by decide
theorem dma_ne_bar (q : DmaSem sig) : (SemLoc.dma q : SemLoc sig) ≠ .reg barS := fun h => by cases h

/-! ## Contents -/

/-- Device `c`'s block of `x`. -/
abbrev xin (c : Dev nD) : S1x4096x2048.Idx → Elt F .bf16 := m ((c : Thread nD τ).loc main_arg0)
/-- Slab `k` of it. -/
def chunk (c : Dev nD) (k : Fin 8) : S1x512x2048.Idx → Elt F .bf16 := fun j => xin m c ((xR k).emb j)

/-! ## The schedule -/

/-- Device `c`'s result slabs, at any contents. -/
def outSlabs (c : Dev nD) : sProp 𝕄 := bigSep Finset.univ fun k => iprop(∃ X, owns (c : Thread nD τ) (oS k) fullShare X)
def sendPay (c : Dev nD) (k : Fin 8) : sProp 𝕄 := iprop(∃ X, owns (c : Thread nD τ) (bS k) fullShare X)
def recvPay (c : Dev nD) (k : Fin 8) : sProp 𝕄 := owns (c : Thread nD τ) (oS k) fullShare (chunk m (π.symm c) k)

abbrev IsBar (g : GSem nD τ sig) : Prop := g.1.2 = .tc ∧ g.2 = .reg barS
abbrev IsSlab (g : GSem nD τ sig) : Prop := g.1.2 = .tc ∧ ((∃ k, g.2 = .dma (sSem k)) ∨ ∃ k, g.2 = .dma (rSem k))

def Rd : Rounds.Schedule (GSem nD τ sig) Bool 𝕄 where
  duties g r := if r = 0 ∧ IsBar g then Finset.univ else if r = 0 ∧ IsSlab g then {false} else ∅
  unitless _ := False
  amount g _ _ := if g.2 = .reg barS then 1 else N
  payload g _ d :=
    if g.2 = .reg barS then (if d then outSlabs (π g.1.1) else iprop(emp))
    else if h : ∃ k, g.2 = .dma (rSem k) then recvPay m π g.1.1 h.choose
    else if h : ∃ k, g.2 = .dma (sSem k) then sendPay g.1.1 h.choose
    else iprop(emp)
  amount_pos g _ _ _ := by
    by_cases h : g.2 = .reg barS
    · rw [if_pos h]; exact Nat.one_pos
    · rw [if_neg h]; exact N_pos

instance outSlabs_storable (c : Dev nD) : BI.Storable (upEmb : UEmb _ 𝕄) (outSlabs (F := F) c) := by
  unfold outSlabs; infer_instance
instance sendPay_storable (c : Dev nD) (k : Fin 8) : BI.Storable (upEmb : UEmb _ 𝕄) (sendPay (F := F) c k) := by
  unfold sendPay; infer_instance
instance recvPay_storable (c : Dev nD) (k : Fin 8) : BI.Storable (upEmb : UEmb _ 𝕄) (recvPay (F := F) m π c k) := by
  unfold recvPay; infer_instance

instance payload_storable (g : GSem nD τ sig) (r : ℕ) (d : Bool) :
    BI.Storable (upEmb : UEmb _ 𝕄) ((Rd (F := F) m π).payload g r d) := by
  dsimp only [Rd]
  (repeat' split) <;> infer_instance

section Sched

variable (c : Dev nD) (k : Fin 8)

theorem isSlab_send : IsSlab (sendCell c k) := ⟨rfl, .inl ⟨k, rfl⟩⟩
theorem isSlab_recv : IsSlab (recvCell c k) := ⟨rfl, .inr ⟨k, rfl⟩⟩

theorem duties_bar : (Rd (F := F) m π).duties (barCell c) 0 = Finset.univ := by dsimp only [Rd]; exact if_pos ⟨rfl, rfl, rfl⟩
theorem duties_send : (Rd (F := F) m π).duties (sendCell c k) 0 = {false} := by
  dsimp only [Rd]; rw [if_neg (fun h => dma_ne_bar _ h.2.2)]; exact if_pos ⟨rfl, isSlab_send c k⟩
theorem duties_recv : (Rd (F := F) m π).duties (recvCell c k) 0 = {false} := by
  dsimp only [Rd]; rw [if_neg (fun h => dma_ne_bar _ h.2.2)]; exact if_pos ⟨rfl, isSlab_recv c k⟩
theorem duties_later (g : GSem nD τ sig) : ∀ r, 1 ≤ r → (Rd (F := F) m π).duties g r = ∅ :=
  fun r hr => by dsimp only [Rd]; rw [if_neg fun h => by omega, if_neg fun h => by omega]

theorem amount_bar (d : Bool) : (Rd (F := F) m π).amount (barCell c) 0 d = 1 := by dsimp only [Rd]; exact if_pos rfl
theorem amount_send (d : Bool) : (Rd (F := F) m π).amount (sendCell c k) 0 d = N := by dsimp only [Rd]; exact if_neg (dma_ne_bar _)
theorem amount_recv (d : Bool) : (Rd (F := F) m π).amount (recvCell c k) 0 d = N := by dsimp only [Rd]; exact if_neg (dma_ne_bar _)

theorem expect_bar : (Rd (F := F) m π).expect (barCell c) 0 = 2 := by
  unfold Schedule.expect Schedule.amountOf
  rw [duties_bar, Finset.sum_congr rfl fun d _ => amount_bar m π c d, Finset.sum_const, Finset.card_univ, Fintype.card_bool, smul_eq_mul]
theorem expect_send : (Rd (F := F) m π).expect (sendCell c k) 0 = N := by
  unfold Schedule.expect Schedule.amountOf; rw [duties_send, Finset.sum_singleton, amount_send]
theorem expect_recv : (Rd (F := F) m π).expect (recvCell c k) 0 = N := by
  unfold Schedule.expect Schedule.amountOf; rw [duties_recv, Finset.sum_singleton, amount_recv]

theorem payload_bar_true : (Rd (F := F) m π).payload (barCell c) 0 true = outSlabs (π c) := by
  dsimp only [Rd]; rw [if_pos rfl, if_pos rfl]
theorem payload_bar_false : (Rd (F := F) m π).payload (barCell c) 0 false = iprop(emp) := by
  dsimp only [Rd]; rw [if_pos rfl]; exact if_neg Bool.false_ne_true
theorem payload_recv (d : Bool) : (Rd (F := F) m π).payload (recvCell c k) 0 d = recvPay m π c k := by
  have h : ∃ k', (recvCell c k).2 = .dma (rSem k') := ⟨k, rfl⟩
  have hk : h.choose = k := (rSem_inj _ _ h.choose_spec).symm
  dsimp only [Rd]; rw [if_neg (dma_ne_bar _), dif_pos h, hk]
theorem payload_send (d : Bool) : (Rd (F := F) m π).payload (sendCell c k) 0 d = sendPay c k := by
  have h : ∃ k', (sendCell c k).2 = .dma (sSem k') := ⟨k, rfl⟩
  have hk : h.choose = k := (sSem_inj _ _ h.choose_spec).symm
  have h' : ¬ ∃ k', (sendCell c k).2 = .dma (rSem k') := fun ⟨k', e⟩ => sSem_ne_rSem k k' e
  dsimp only [Rd]; rw [if_neg (dma_ne_bar _), dif_neg h', dif_pos h, hk]

/-- What the waits collect: nothing and the slabs; the staging slab; the arrived slab. -/
theorem rest_bar : bigSep ((Rd (F := F) m π).duties (barCell c) 0 \ ∅) (fun d => (Rd (F := F) m π).payload (barCell c) 0 d)
    = iprop(emp ∗ outSlabs (π c)) := by
  rw [Finset.sdiff_empty, duties_bar, bigSep_univ_eq_bigSepL [false, true] (by decide) (by decide), bigSepL_cons_cons, bigSepL_singleton,
    payload_bar_false, payload_bar_true]
  rfl
theorem rest_send : bigSep ((Rd (F := F) m π).duties (sendCell c k) 0 \ ∅) (fun d => (Rd (F := F) m π).payload (sendCell c k) 0 d)
    = sendPay c k := by
  rw [Finset.sdiff_empty, duties_send, bigSep_singleton, payload_send]
theorem rest_recv : bigSep ((Rd (F := F) m π).duties (recvCell c k) 0 \ ∅) (fun d => (Rd (F := F) m π).payload (recvCell c k) 0 d)
    = recvPay m π c k := by
  rw [Finset.sdiff_empty, duties_recv, bigSep_singleton, payload_recv]

end Sched

/-! ## What each core owes; the levels -/

/-- The arrivals device `c` still owes at `π c` when it has sent the slabs below `n`. -/
def Orem (c : Dev nD) (n : ℕ) : CellTallies nD τ sig Unit :=
  ∑ k ∈ Finset.univ.filter (fun k : Fin 8 => n ≤ k.val), tallyAt (recvCell (π c) k) () N
/-- Before its second signal, and at launch. -/
def O₁ (c : Dev nD) : CellTallies nD τ sig Unit := Orem π c 0 + tallyAt (barCell (π.symm c)) () 1
def O₀ (c : Dev nD) : CellTallies nD τ sig Unit := O₁ π c + tallyAt (barCell (π c)) () 1

theorem Orem_step (c : Dev nD) (k : ℕ) (hk : k < 8) : Orem π c k = Orem π c (k + 1) + tallyAt (recvCell (π c) ⟨k, hk⟩) () N := by
  have : (Finset.univ.filter fun t : Fin 8 => k ≤ t.val) = insert ⟨k, hk⟩ (Finset.univ.filter fun t : Fin 8 => k + 1 ≤ t.val) := by
    ext t; simp only [Finset.mem_filter, Finset.mem_univ, true_and, Finset.mem_insert, Fin.ext_iff]; omega
  unfold Orem; rw [this, Finset.sum_insert (by simp), add_comm]

theorem Orem_last (c : Dev nD) : Orem π c 8 = 0 := by
  unfold Orem; rw [Finset.filter_false_of_mem fun t _ => Nat.not_le.mpr t.isLt, Finset.sum_empty]

theorem Orem_apply (c : Dev nD) (n : ℕ) (g : GSem nD τ sig) (u : Unit) :
    Orem π c n g u = ∑ k ∈ Finset.univ.filter (fun k : Fin 8 => n ≤ k.val), if g = recvCell (π c) k ∧ u = () then N else 0 := by
  unfold Orem
  rw [Finset.sum_apply, Finsupp.finset_sum_apply]
  exact Finset.sum_congr rfl fun k _ => tallyAt_apply _ _ _ _ _

theorem Orem_pos {c : Dev nD} {n : ℕ} {g : GSem nD τ sig} {u : Unit} (h : 0 < Orem π c n g u) : ∃ k, g = recvCell (π c) k := by
  rw [Orem_apply] at h
  obtain ⟨k, -, hk⟩ := Finset.exists_ne_zero_of_sum_ne_zero (Nat.pos_iff_ne_zero.mp h)
  by_contra hn
  exact hk (if_neg fun h' => hn ⟨k, h'.1⟩)

def L (g : GSem nD τ sig) : Finset Unit := if g.1.2 = .tc then {()} else ∅
/-- Barrier cells at 1, receive cells at 2, the rest at 0. -/
def lv (g : GSem nD τ sig) (_ : Unit) : ℕ := if g.2 = .reg barS then 1 else if ∃ k, g.2 = .dma (rSem k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 8) : lv (recvCell c k) () = 2 := by
  dsimp only [lv]; rw [if_neg (dma_ne_bar _)]; exact if_pos ⟨k, rfl⟩
theorem lv_dma (c : Dev nD) (q : DmaSem sig) (hq : ∀ k, SemLoc.dma (sig := sig) q ≠ .dma (rSem k)) : lv ((c : Thread nD τ), .dma q) () = 0 := by
  dsimp only [lv]; rw [if_neg (dma_ne_bar _)]; exact if_neg fun ⟨k, e⟩ => hq k e

theorem O₀_pos {c : Dev nD} {g : GSem nD τ sig} {u : Unit} (h : 0 < O₀ π c g u) :
    (∃ k, g = recvCell (π c) k) ∨ g = barCell (π.symm c) ∨ g = barCell (π c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (Orem_pos π h)

/-- A core may wait on a cell of its own below the arrivals while it owes arrivals only. -/
theorem mayWait_low (c : Dev nD) (sm : SemLoc sig) (h : lv ((c : Thread nD τ), sm) () ≤ 1) (n : ℕ) :
    (levAts L lv : sProp 𝕄) ⊢ MayWait (c : Thread nD τ) sm () (Orem π c n) :=
  MayOwe.of_cut (L := L) (lev := lv) 1 (fun p hp => by rw [Finset.mem_singleton.mp hp, L_tc]; exact Finset.mem_singleton_self _)
    (fun g u hg => by obtain ⟨k, rfl⟩ := Orem_pos π hg; exact Finset.mem_singleton_self _)
    (fun p hp => by rw [Finset.mem_singleton.mp hp]; exact h)
    (fun g u hg => by obtain ⟨k, rfl⟩ := Orem_pos π hg; cases u; rw [lv_recv]; decide)

/-- The staging waits of the launch: on a cell at the bottom, owing everything or nothing. -/
theorem mayWait_stage (c : Dev nD) (q : DmaSem sig) (hq : ∀ k, SemLoc.dma (sig := sig) q ≠ .dma (rSem k)) (O : CellTallies nD τ sig Unit)
    (hO : O = O₀ π c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos π hg with ⟨k, rfl⟩ | rfl | rfl <;> exact Finset.mem_singleton_self _)
      (fun p hp => by rw [Finset.mem_singleton.mp hp]; exact (lv_dma c q hq).le)
      (fun g u hg => by
        cases u
        rcases O₀_pos π hg with ⟨k, rfl⟩ | rfl | rfl
        · rw [lv_recv]; decide
        · rw [lv_bar]; decide
        · rw [lv_bar]; decide)
  · rw [MayWait_zero]; iintro -; iempintro

end Cert.RouteProof

end
-- ==== Proof.Steps.lean ====
/-
# The kernel's operations, one rule each

Each rule takes what its operation needs, and the continuation with what it gives back. The slabs are stated with their
leading unit axis (`owns … (xS k) …`), the transfers name them without it.
-/
module

public import proofs.«01_k».proof.Proof.Protocol

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (π : Equiv.Perm (Dev nD))

abbrev 𝒱₀ : Variants := Variants.none

abbrev Code (F : FTy → Type) (α : Type) : Type 1 := Prog (TpuEff nD τ sig (Elt F) Λ₀ .tc) α

/-- A program of the kernel on device `c`, run to `Q`. -/
abbrev run {α : Type} (c : Dev nD) (p : Code F α) (Q : α → sProp 𝕄) : sProp 𝕄 :=
  wp frame (wpE (defs₀ (F := F)) 𝒱₀ (c : Thread nD τ) none) Set.univ p Q

/-! ## What every rule of the exchange may use -/

/-- Every cell's invariant, at the names the launch gave, and that every cell reached round 0. -/
def records (K : Dev nD × Port → ℕ) : sProp 𝕄 :=
  iprop((bigSep Finset.univ fun cp : Dev nD × Port => cellInv ER (Rd m π) (K cp) (pcell cp))
    ∗ bigSep Finset.univ fun cp : Dev nD × Port => reached ER (pcell cp) 0)

instance records_persistent (K : Dev nD × Port → ℕ) : BI.Persistent (records m π K) := by unfold records; infer_instance

theorem records_inv (K : Dev nD × Port → ℕ) (cp : Dev nD × Port) : records m π K ⊢ cellInv ER (Rd m π) (K cp) (pcell cp) := by
  have h : (bigSep Finset.univ fun cp : Dev nD × Port => (cellInv ER (Rd m π) (K cp) (pcell cp) : sProp 𝕄))
      ⊢ cellInv ER (Rd m π) (K cp) (pcell cp) := bigSep_elim (Finset.mem_univ cp)
  unfold records
  iintro ⟨H, -⟩
  iapply h $$ H

theorem records_reached (K : Dev nD × Port → ℕ) (cp : Dev nD × Port) : records m π K ⊢ reached ER (pcell cp) 0 := by
  have h : (bigSep Finset.univ fun cp : Dev nD × Port => (reached ER (pcell cp) 0 : sProp 𝕄)) ⊢ reached ER (pcell cp) 0 :=
    bigSep_elim (Finset.mem_univ cp)
  unfold records
  iintro ⟨-, H⟩
  iapply h $$ H

/-- What a core owes, its record of waits unconstrained. -/
abbrev owing (c : Dev nD) (O : CellTallies nD τ sig Unit) : sProp 𝕄 := iprop(∃ W, owes (c : Thread nD τ) O W)

/-! ## Local copies -/

/-- Slab `k` on its way to slot `j`. -/
abbrev Fetching (c : Dev nD) (k : Fin 8) (j : Fin 2) : sProp 𝕄 :=
  Flight EC (c : Thread nD τ) (.dma (fSem j)) () N
    iprop(owns (c : Thread nD τ) (fS j) fullShare (chunk m c k) ∗ owns (c : Thread nD τ) (xS k) fullShare (chunk m c k))

theorem owns_open {c : Thread nD τ} {sp : Space} {s : Shape} {e : EltTy} (mr : Memref sig c.2.kind sp s e) (X : s.Idx → Elt F e) :
    (owns c mr fullShare X : sProp 𝕄) ⊢ ∃ f, ⌜mr.view.read (Elt F) f = X⌝ ∗ (mr.view.loc c ↦[mr.view.set]{fullShare} f) := BI.Entails.refl _
theorem owns_close {c : Thread nD τ} {sp : Space} {s : Shape} {e : EltTy} (mr : Memref sig c.2.kind sp s e) {X : s.Idx → Elt F e}
    {f : mr.view.ty.Contents (Elt F)} (h : mr.view.read (Elt F) f = X) :
    (mr.view.loc c ↦[mr.view.set]{fullShare} f : sProp 𝕄) ⊢ owns c mr fullShare X := by subst h; exact owns_intro c mr fullShare f

/-- A slab opened by the memref without its unit axis. -/
theorem open_flat {c : Thread nD τ} {sp : Space} (mr : Memref sig c.2.kind sp S1x512x2048 .bf16) (X : S1x512x2048.Idx → Elt F .bf16) :
    (owns c mr fullShare X : sProp 𝕄)
      ⊢ ∃ f, ⌜(mr.squeeze S512x2048 squeezes_S1x512x2048_S512x2048).view.read (Elt F) f = flat X⌝
        ∗ ((mr.squeeze S512x2048 squeezes_S1x512x2048_S512x2048).view.loc c
            ↦[(mr.squeeze S512x2048 squeezes_S1x512x2048_S512x2048).view.set]{fullShare} f) := by
  rw [← owns_squeeze mr squeezes_S1x512x2048_S512x2048 fullShare X]; exact owns_open _ _

theorem close_flat {c : Thread nD τ} {sp : Space} (mr : Memref sig c.2.kind sp S1x512x2048 .bf16) {X : S1x512x2048.Idx → Elt F .bf16}
    {f : (mr.squeeze S512x2048 squeezes_S1x512x2048_S512x2048).view.ty.Contents (Elt F)}
    (h : (mr.squeeze S512x2048 squeezes_S1x512x2048_S512x2048).view.read (Elt F) f = flat X) :
    ((mr.squeeze S512x2048 squeezes_S1x512x2048_S512x2048).view.loc c
        ↦[(mr.squeeze S512x2048 squeezes_S1x512x2048_S512x2048).view.set]{fullShare} f : sProp 𝕄) ⊢ owns c mr fullShare X := by
  rw [← owns_squeeze mr squeezes_S1x512x2048_S512x2048 fullShare X]; exact owns_close _ h

theorem fetch_lands (c : Dev nD) (k : Fin 8) (j : Fin 2) {f : (xQ k).view.ty.Contents (Elt F)} {g : (fQ j).view.ty.Contents (Elt F)}
    (hf : (xQ k).view.read (Elt F) f = flat (chunk m c k)) :
    iprop(((fQ j).view.loc (c : Thread nD τ) ↦[(fQ j).view.set]{fullShare} ((fQ j).view.write (Elt F) g ((xQ k).view.read (Elt F) f) Finset.univ))
        ∗ ((xQ k).view.loc (c : Thread nD τ) ↦[(xQ k).view.set]{fullShare} f))
      ⊢ (iprop(owns (c : Thread nD τ) (fS j) fullShare (chunk m c k) ∗ owns (c : Thread nD τ) (xS k) fullShare (chunk m c k)) : sProp 𝕄) :=
  BI.sep_mono (close_flat (c := (c : Thread nD τ)) (fS j) ((View.read_write_univ _ _).trans hf)) (close_flat (c := (c : Thread nD τ)) (xS k) hf)

theorem fetch_step {α : Type} (c : Dev nD) (k : Fin 8) (j : Fin 2) {hs : (xQ k).view.WordExact} {hd : (fQ j).view.WordExact}
    {ht : DmaTarget.Typed (nD := nD) .hbm (.dma (fSem j)) (.here (p := .tc) (fQ j))} {p : PUnit → Code F α} {Q : α → sProp 𝕄} :
    iprop(owns (c : Thread nD τ) (xS k) fullShare (chunk m c k) ∗ (∃ Y, owns (c : Thread nD τ) (fS j) fullShare Y) ∗ semVal (fetchCell c j) 0
        ∗ (Fetching m c k j -∗ run c (p ⟨⟩) Q))
      ⊢ run c (.op (.enqueueDma (xQ k) (.here (fQ j)) (.dma (fSem j)) hs hd ht) p) Q := by
  iintro ⟨Hx, ⟨%Y, Hs⟩, Hv, Hk⟩
  icases (open_flat (c := (c : Thread nD τ)) (xS k) _) $$ Hx with ⟨%f, %hf, Hx⟩
  icases (open_flat (c := (c : Thread nD τ)) (fS j) _) $$ Hs with ⟨%g, -, Hs⟩
  iapply (Transfers.wp_dmaLocal EC 𝒱₀ (c : Thread nD τ) none (src := xQ k) (dst := fQ j) (sm := .dma (fSem j)) (Sd := (fQ j).view.set)
    (fs := f) (fd := g) () N rfl N_pos (Finset.Subset.refl _)) $$ [Hx Hs Hv]
  · isplitl [Hx]; · iexact Hx
    isplitl [Hs]; · iexact Hs
    iexact Hv
  iintro Hf
  iapply Hk
  iapply (Transfers.Flight_mono EC (c : Thread nD τ) (fetch_lands m c k j (g := g) hf)) $$ Hf

theorem fetched_step {α : Type} (c : Dev nD) (k : Fin 8) (j : Fin 2) (n : ℕ) {hs : (xQ k).view.WordExact} {hd : (fQ j).view.WordExact}
    {p : PUnit → Code F α} {Q : α → sProp 𝕄} :
    iprop(Fetching m c k j ∗ levAts L lv ∗ owing c (Orem π c n)
        ∗ (iprop(owns (c : Thread nD τ) (fS j) fullShare (chunk m c k) ∗ owns (c : Thread nD τ) (xS k) fullShare (chunk m c k)
            ∗ semVal (fetchCell c j) 0 ∗ owing c (Orem π c n)) -∗ run c (p ⟨⟩) Q))
      ⊢ run c (.op (.waitDma2 (fSem j) (xQ k) (fQ j) hs hd) p) Q := by
  iintro ⟨Hf, Hl, ⟨%W, HO⟩, Hk⟩
  iapply (Transfers.wp_waitLocalO EC 𝒱₀ (c : Thread nD τ) none () (srcw := xQ k) (dstw := fQ j) (N := N) rfl (O := Orem π c n) (W := W)) $$ [Hf Hl HO]
  · isplitl [Hf]; · iexact Hf
    isplitl [HO]; · iexact HO
    iapply (mayWait_low π c (.dma (fSem j)) ((lv_dma c (fSem j) (fSem_ne_rSem j)).trans_le (Nat.zero_le _)) n) $$ Hl
  iintro ⟨⟨Hs, Hx⟩, Hv, HO⟩
  iapply Hk
  isplitl [Hs]; · iexact Hs
  isplitl [Hx]; · iexact Hx
  isplitl [Hv]; · iexact Hv
  iexists _; iexact HO

/-! ## Staging -/

theorem stage_step {α : Type} (c : Dev nD) (j : Fin 2) (k : Fin 8) (X : S1x512x2048.Idx → Elt F .bf16)
    {pay : (S1x512x2048.Idx → Elt F .bf16) → S1x512x2048.Idx → Elt F .bf16} (hpay : ∀ v, pay v = v)
    {hl : fA.view.LoadsAt (fR j).toLoadRect} {hl' : bA.view.LoadsAt (bR k).toLoadRect}
    {hst : (bA.access (bR k)).Stores Finset.univ} {hm : (Finset.univ : Finset (bR k).shape.Idx) = Finset.univ ∨ ∀ a, (bR k).stride a = 1}
    {p : PUnit → Code F α} {Q : α → sProp 𝕄} :
    iprop(owns (c : Thread nD τ) (fS j) fullShare X ∗ (∃ Y, owns (c : Thread nD τ) (bS k) fullShare Y)
        ∗ (iprop(owns (c : Thread nD τ) (fS j) fullShare X ∗ owns (c : Thread nD τ) (bS k) fullShare X) -∗ run c (p ⟨⟩) Q))
      ⊢ run c (.op (.load fA (fR j).toLoadRect hl) fun v => .op (.load bA (bR k).toLoadRect hl') fun _ =>
          .op (.store bA (bR k) (pay v) Finset.univ hst hm) p) Q := by
  iintro ⟨Hs, ⟨%Y, Hb⟩, Hk⟩
  icases (owns_open (c := (c : Thread nD τ)) (fS j) _) $$ Hs with ⟨%f, %hf, Hs⟩
  icases (owns_open (c := (c : Thread nD τ)) (bS k) _) $$ Hb with ⟨%g, -, Hb⟩
  iapply (wp_load_rect 𝒱₀ (c : Thread nD τ) none Set.univ (m := fA) (r := fR j) (Finset.Subset.refl _)) $$ Hs
  iintro Hs
  iapply (wp_load_rect 𝒱₀ (c : Thread nD τ) none Set.univ (m := bA) (r := bR k) (Finset.Subset.refl _)) $$ Hb
  iintro Hb
  iapply (wp_store 𝒱₀ (c : Thread nD τ) none Set.univ (m := bA) (r := bR k) (Mk := Finset.univ) (S := (bA.access (bR k)).set)
    (by rw [View.setOn_univ])) $$ Hb
  iintro Hb
  iapply Hk
  isplitl [Hs]
  · iapply (owns_close (c := (c : Thread nD τ)) (fS j) hf) $$ Hs
  · iapply (owns_close (c := (c : Thread nD τ)) (bS k) (by rw [hpay]; exact (View.read_write_univ _ _).trans hf)) $$ Hb

/-! ## The barrier -/

variable (K : Dev nD × Port → ℕ)

/-- The signal to the device this one sends to: the cell's duty `false`, with nothing. -/
theorem signal_dst_step {α : Type} (c n : Dev nD) (hn : n = π c) {p : PUnit → Code F α} {Q : α → sProp 𝕄} :
    iprop(records m π K ∗ owing c (O₀ π c) ∗ dutyTok ER (barCell (π c)) 0 false ∗ (owing c (O₁ π c) -∗ run c (p ⟨⟩) Q))
      ⊢ run c (.op (.semSignal (n, .tc) barS (1#32).toInt) p) Q := by
  subst hn
  iintro ⟨#HR, ⟨%W, HO⟩, Ht, Hk⟩
  iapply (Rounds.wp_signal 𝒱₀ ER (Rd m π) (c : Thread nD τ) none (dst := (π c : Thread nD τ)) (κ := K (π c, .inl ()))
      (d := false) (by rw [duties_bar]; exact Finset.mem_univ _) ((amount_bar m π (π c) false).trans (by decide)) () (O₁ π c) rfl) $$ [HO Ht]
  · isplitr; · iapply (records_inv m π K (π c, .inl ())) $$ HR
    isplitl [HO]; · iexact HO
    isplitl [Ht]; · iexact Ht
    isplitr; · rw [payload_bar_false]; iempintro
    iapply (records_reached m π K (π c, .inl ())) $$ HR
  iintro HO
  iapply Hk
  iexists _; iexact HO

/-- The signal to the device this one hears from: the cell's duty `true`, with this device's result slabs. -/
theorem signal_src_step {α : Type} (c n : Dev nD) (hn : n = π.symm c) {p : PUnit → Code F α} {Q : α → sProp 𝕄} :
    iprop(records m π K ∗ owing c (O₁ π c) ∗ dutyTok ER (barCell (π.symm c)) 0 true ∗ outSlabs c ∗ (owing c (Orem π c 0) -∗ run c (p ⟨⟩) Q))
      ⊢ run c (.op (.semSignal (n, .tc) barS (1#32).toInt) p) Q := by
  subst hn
  iintro ⟨#HR, ⟨%W, HO⟩, Ht, Hout, Hk⟩
  iapply (Rounds.wp_signal 𝒱₀ ER (Rd m π) (c : Thread nD τ) none (dst := (π.symm c : Thread nD τ)) (κ := K (π.symm c, .inl ()))
      (d := true) (by rw [duties_bar]; exact Finset.mem_univ _) ((amount_bar m π (π.symm c) true).trans (by decide)) () (Orem π c 0) rfl) $$ [HO Ht Hout]
  · isplitr; · iapply (records_inv m π K (π.symm c, .inl ())) $$ HR
    isplitl [HO]; · iexact HO
    isplitl [Ht]; · iexact Ht
    isplitl [Hout]
    · rw [payload_bar_true, Equiv.apply_symm_apply]; iexact Hout
    iapply (records_reached m π K (π.symm c, .inl ())) $$ HR
  iintro HO
  iapply Hk
  iexists _; iexact HO

/-- The wait for both signals: the result slabs of the device this one sends to. -/
theorem barrier_step {α : Type} (c : Dev nD) {p : PUnit → Code F α} {Q : α → sProp 𝕄} :
    iprop(records m π K ∗ cred (tallyAt (barCell c) () 2) ∗ owing c (Orem π c 0) ∗ levAts L lv ∗ atPos ER (barCell c) 0 ∅ 0
        ∗ (iprop(outSlabs (π c) ∗ semVal (barCell c) 0 ∗ owing c (Orem π c 0)) -∗ run c (p ⟨⟩) Q))
      ⊢ run c (.op (.semWait barS (2#32).toNat) p) Q := by
  iintro ⟨#HR, Hc, ⟨%W, HO⟩, Hl, Hat, Hk⟩
  ihave #HI := (records_inv m π K (c, .inl ())) $$ HR
  iapply (Rounds.wp_wait_rest_token 𝒱₀ ER (Rd m π) (c : Thread nD τ) none (κ := K (c, .inl ()))
      (wpE_semWait_eq 𝒱₀ (c : Thread nD τ) none Set.univ) (Set.mem_univ _) () (O := Orem π c 0) (W := W) (R := 0) (m := 0) (T := ∅)
      (by rw [expect_bar]; decide)) $$ [Hc HO Hl Hat]
  · isplitr; · iexact HI
    isplitl [Hc]; · iexact Hc
    isplitl [HO]; · iexact HO
    isplitl [Hl]; · iapply (mayWait_low π c (.reg barS) (lv_bar c).le 0) $$ Hl
    iexact Hat
  iintro ⟨HO, Hat, -, Hpay⟩
  imod (Rounds.cell_close ER (Rd m π) (Set.mem_univ (K (c, .inl ()))) (fun h => h) (R := 0 + 1) (duties_later m π (barCell c))) $$ [Hat] with Hz
  · isplitr; · iexact HI
    iexact Hat
  ihave Hp := (Entails.of_eq (rest_bar m π c)) $$ Hpay
  icases Hp with ⟨-, Hp⟩
  iapply Hk
  isplitl [Hp]; · iexact Hp
  isplitl [Hz]; · iexact Hz
  iexists _; iexact HO

/-! ## The remote copies -/

theorem send_step {α : Type} (c n : Dev nD) (hn : n = π c) (k : Fin 8) {hsc : (oQ k).view.ref.isScScratch = false}
    {hs : (bQ k).view.WordExact} {hd : (oQ k).view.WordExact}
    {ht : DmaTarget.Typed (nD := nD) .vmem (.dma (rSem k)) (.remote (p := .tc) (Dev.tc n : Thread nD τ) (oQ k) (.dma (sSem k)) hsc)}
    {p : PUnit → Code F α} {Q : α → sProp 𝕄} :
    iprop(records m π K ∗ owns (c : Thread nD τ) (bS k) fullShare (chunk m c k)
        ∗ (∃ Y, owns (π c : Thread nD τ) (oS k) fullShare Y) ∗ owing c (Orem π c k.val)
        ∗ dutyTok ER (sendCell c k) 0 false ∗ dutyTok ER (recvCell (π c) k) 0 false
        ∗ (iprop(cred (tallyAt (sendCell c k) () N) ∗ owing c (Orem π c (k.val + 1))) -∗ run c (p ⟨⟩) Q))
      ⊢ run c (.op (.enqueueDma (bQ k) (.remote (Dev.tc n : Thread nD τ) (oQ k) (.dma (sSem k)) hsc) (.dma (rSem k)) hs hd ht) p) Q := by
  subst hn
  iintro ⟨#HR, Hb, ⟨%Y, Ho⟩, ⟨%W, HO⟩, Hts, Htr, Hk⟩
  icases (open_flat (c := (c : Thread nD τ)) (bS k) _) $$ Hb with ⟨%f, %hf, Hb⟩
  icases (open_flat (c := (π c : Thread nD τ)) (oS k) _) $$ Ho with ⟨%g, -, Ho⟩
  iapply (Rounds.wp_send_pointsTo 𝒱₀ ER (Rd m π) (c : Thread nD τ) none (src := bQ k) (dst := oQ k) (c' := (π c : Thread nD τ))
    (κ₁ := K (c, .inr (.inl k))) (κ₂ := K (π c, .inr (.inr k)))
    (r₁ := 0) (r₂ := 0) (d₁ := false) (d₂ := false) (fd := g)
    (by rw [duties_send]; exact Finset.mem_singleton_self _) (by rw [duties_recv]; exact Finset.mem_singleton_self _)
    () () N rfl (amount_send m π c k false) (amount_recv m π (π c) k false) (Orem π c (k.val + 1)) (Orem_step π c k.val k.isLt) (W := W)
    (by rw [payload_send]; unfold sendPay
        exact (close_flat (c := (c : Thread nD τ)) (bS k) hf).trans (exists_intro (Φ := fun X => owns (c : Thread nD τ) (bS k) fullShare X) _))
    (by rw [payload_recv]; unfold recvPay; rw [Equiv.symm_apply_apply]
        exact close_flat (c := (π c : Thread nD τ)) (oS k) ((View.read_write_univ _ _).trans hf))) $$ [Hb Ho HO Hts Htr]
  · isplitr; · iapply (records_inv m π K (c, .inr (.inl k))) $$ HR
    isplitr; · iapply (records_inv m π K (π c, .inr (.inr k))) $$ HR
    isplitl [Hb]; · iexact Hb
    isplitl [Ho]; · iexact Ho
    isplitl [HO]; · iexact HO
    isplitl [Hts]; · iexact Hts
    isplitr; · iapply (records_reached m π K (c, .inr (.inl k))) $$ HR
    isplitl [Htr]; · iexact Htr
    iapply (records_reached m π K (π c, .inr (.inr k))) $$ HR
  iintro ⟨Hc, HO⟩
  iapply Hk
  isplitl [Hc]; · iexact Hc
  iexists _; iexact HO

/-- The wait for a departure: the staging slab is the core's again and the cell is closed at zero. -/
theorem sent_step {α : Type} (c : Dev nD) (k : Fin 8) {hs : (oQ k).view.WordExact} {hd : (bQ k).view.WordExact}
    {p : PUnit → Code F α} {Q : α → sProp 𝕄} :
    iprop(records m π K ∗ cred (tallyAt (sendCell c k) () N) ∗ owing c 0 ∗ atPos ER (sendCell c k) 0 ∅ 0
        ∗ (iprop(sendPay c k ∗ semVal (sendCell c k) 0 ∗ owing c 0) -∗ run c (p ⟨⟩) Q))
      ⊢ run c (.op (.waitDma2 (sSem k) (oQ k) (bQ k) hs hd) p) Q := by
  iintro ⟨#HR, Hc, ⟨%W, HO⟩, Hat, Hk⟩
  ihave #HI := (records_inv m π K (c, .inr (.inl k))) $$ HR
  iapply (Rounds.wp_wait_rest_token 𝒱₀ ER (Rd m π) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m π) (Set.mem_univ (K (c, .inr (.inl k)))) (fun h => h) (R := 0 + 1) (duties_later m π (sendCell c k))) $$ [Hat] with Hz
  · isplitr; · iexact HI
    iexact Hat
  ihave Hp := (Entails.of_eq (rest_send m π c k)) $$ Hpay
  iapply Hk
  isplitl [Hp]; · iexact Hp
  isplitl [Hz]; · iexact Hz
  iexists _; iexact HO

/-- The wait for an arrival: the result slab holding what the sender staged. -/
theorem received_step {α : Type} (c : Dev nD) (k : Fin 8) {hs : (bQ k).view.WordExact} {hd : (oQ k).view.WordExact}
    {p : PUnit → Code F α} {Q : α → sProp 𝕄} :
    iprop(records m π K ∗ cred (tallyAt (recvCell c k) () N) ∗ owing c 0 ∗ atPos ER (recvCell c k) 0 ∅ 0
        ∗ (iprop(recvPay m π c k ∗ semVal (recvCell c k) 0 ∗ owing c 0) -∗ run c (p ⟨⟩) Q))
      ⊢ run c (.op (.waitDma2 (rSem k) (bQ k) (oQ k) hs hd) p) Q := by
  iintro ⟨#HR, Hc, ⟨%W, HO⟩, Hat, Hk⟩
  ihave #HI := (records_inv m π K (c, .inr (.inr k))) $$ HR
  iapply (Rounds.wp_wait_rest_token 𝒱₀ ER (Rd m π) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m π) (Set.mem_univ (K (c, .inr (.inr k)))) (fun h => h) (R := 0 + 1) (duties_later m π (recvCell c k))) $$ [Hat] with Hz
  · isplitr; · iexact HI
    iexact Hat
  ihave Hp := (Entails.of_eq (rest_recv m π c k)) $$ Hpay
  iapply Hk
  isplitl [Hp]; · iexact Hp
  isplitl [Hz]; · iexact Hz
  iexists _; iexact HO

end Cert.RouteProof

end
-- ==== Proof.Turns.lean ====
/-
# One turn of the kernel's pipeline

Turn `k` sends slab `k`, collects slab `k + 1` from its slot, starts fetching slab `k + 2` into the slot slab `k` was in,
and stages slab `k + 1`.
-/
module

public import proofs.«01_k».proof.Proof.Steps

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (π : Equiv.Perm (Dev nD))

variable (K : Dev nD × Port → ℕ)

/-- Slabs of the operand not in flight; -/
abbrev xOwn (c : Dev nD) (k : Fin 8) : sProp 𝕄 := owns (c : Thread nD τ) (xS k) fullShare (chunk m c k)
/-- a slot, a staging slab, a result slab at any contents; -/
abbrev fAny (c : Dev nD) (j : Fin 2) : sProp 𝕄 := iprop(∃ Y, owns (c : Thread nD τ) (fS j) fullShare Y)
abbrev bAny (c : Dev nD) (k : Fin 8) : sProp 𝕄 := iprop(∃ Y, owns (c : Thread nD τ) (bS k) fullShare Y)
abbrev oAny (c : Dev nD) (k : Fin 8) : sProp 𝕄 := iprop(∃ Y, owns (c : Thread nD τ) (oS k) fullShare Y)
/-- the two duties of a send; the credit of a departure. -/
abbrev sTok (c : Dev nD) (k : Fin 8) : sProp 𝕄 := dutyTok ER (sendCell c k) 0 false
abbrev rTok (c : Dev nD) (k : Fin 8) : sProp 𝕄 := dutyTok ER (recvCell c k) 0 false
abbrev sCred (c : Dev nD) (k : Fin 8) : sProp 𝕄 := cred (tallyAt (sendCell c k) () N)

/-- What the sends of the slabs from `k` on need, and what those below `k` left. -/
def toSend (c : Dev nD) (k : ℕ) : sProp 𝕄 :=
  iprop(From k (oAny (F := F) (π c)) ∗ From k (sTok (F := F) c) ∗ From k (rTok (F := F) (π c)) ∗ Upto k (sCred (F := F) c) ∗ owing c (Orem π c k))

theorem send_next {α : Type} (c n : Dev nD) (hn : n = π c) (k : Fin 8) {hsc : (oQ k).view.ref.isScScratch = false}
    {hs : (bQ k).view.WordExact} {hd : (oQ k).view.WordExact}
    {ht : DmaTarget.Typed (nD := nD) .vmem (.dma (rSem k)) (.remote (p := .tc) (Dev.tc n : Thread nD τ) (oQ k) (.dma (sSem k)) hsc)}
    {p : PUnit → Code F α} {Q : α → sProp 𝕄} :
    iprop(records m π K ∗ owns (c : Thread nD τ) (bS k) fullShare (chunk m c k) ∗ toSend π c k.val ∗ (toSend π c (k.val + 1) -∗ run c (p ⟨⟩) Q))
      ⊢ run c (.op (.enqueueDma (bQ k) (.remote (Dev.tc n : Thread nD τ) (oQ k) (.dma (sSem k)) hsc) (.dma (rSem k)) hs hd ht) p) Q := by
  have e₁ := Entails.of_eq (from_step (oAny (F := F) (π c)) k.val k.isLt)
  have e₂ := Entails.of_eq (from_step (sTok (F := F) c) k.val k.isLt)
  have e₃ := Entails.of_eq (from_step (rTok (F := F) (π c)) k.val k.isLt)
  have e₄ := Entails.of_eq (upto_step (sCred (F := F) c) k.val k.isLt).symm
  unfold toSend
  iintro ⟨HR, Hb, ⟨Ho, Hs, Hr, Hc, HO⟩, Hk⟩
  icases e₁ $$ Ho with ⟨Ho', Ho⟩
  icases e₂ $$ Hs with ⟨Hs', Hs⟩
  icases e₃ $$ Hr with ⟨Hr', Hr⟩
  iapply (send_step m π K c n hn k)
  isplitl [HR]; · iexact HR
  isplitl [Hb]; · iexact Hb
  isplitl [Ho']; · iexact Ho'
  isplitl [HO]; · iexact HO
  isplitl [Hs']; · iexact Hs'
  isplitl [Hr']; · iexact Hr'
  iintro ⟨Hc', HO⟩
  iapply Hk
  isplitl [Ho]; · iexact Ho
  isplitl [Hs]; · iexact Hs
  isplitl [Hr]; · iexact Hr
  isplitl [Hc Hc']
  · iapply e₄
    isplitl [Hc']; · iexact Hc'
    iexact Hc
  iexact HO

/-- Before turn `k`: slab `k` staged, slab `k + 1` on its way to slot `j'`, slot `j` free. -/
def mid (c : Dev nD) (k : ℕ) (hk : k + 1 < 8) (j j' : Fin 2) : sProp 𝕄 :=
  iprop(toSend π c k ∗ owns (c : Thread nD τ) (bS ⟨k, by omega⟩) fullShare (chunk m c ⟨k, by omega⟩) ∗ From (k + 1) (bAny (F := F) c)
    ∗ Fetching m c ⟨k + 1, hk⟩ j' ∗ fAny c j ∗ semVal (fetchCell c j) 0 ∗ From (k + 2) (xOwn m c) ∗ Upto (k + 1) (xOwn m c))

theorem turn {α : Type} (c n : Dev nD) (hn : n = π c) (k : ℕ) (hk : k + 2 < 8) (j j' : Fin 2)
    {pay : (S1x512x2048.Idx → Elt F .bf16) → S1x512x2048.Idx → Elt F .bf16} (hpay : ∀ v, pay v = v)
    {hsc : (oQ ⟨k, by omega⟩).view.ref.isScScratch = false}
    {h₁ : (bQ ⟨k, by omega⟩).view.WordExact} {h₂ : (oQ ⟨k, by omega⟩).view.WordExact}
    {h₃ : DmaTarget.Typed (nD := nD) .vmem (.dma (rSem ⟨k, by omega⟩))
      (.remote (p := .tc) (Dev.tc n : Thread nD τ) (oQ ⟨k, by omega⟩) (.dma (sSem ⟨k, by omega⟩)) hsc)}
    {h₄ : (xQ ⟨k + 1, by omega⟩).view.WordExact} {h₅ : (fQ j').view.WordExact}
    {h₆ : (xQ ⟨k + 2, hk⟩).view.WordExact} {h₇ : (fQ j).view.WordExact}
    {h₈ : DmaTarget.Typed (nD := nD) .hbm (.dma (fSem j)) (.here (p := .tc) (fQ j))}
    {h₉ : fA.view.LoadsAt (fR j').toLoadRect} {h₁₀ : bA.view.LoadsAt (bR ⟨k + 1, by omega⟩).toLoadRect}
    {h₁₁ : (bA.access (bR ⟨k + 1, by omega⟩)).Stores Finset.univ}
    {h₁₂ : (Finset.univ : Finset (bR ⟨k + 1, by omega⟩).shape.Idx) = Finset.univ ∨ ∀ a, (bR ⟨k + 1, by omega⟩).stride a = 1}
    {p : PUnit → Code F α} {Q : α → sProp 𝕄} :
    iprop(records m π K ∗ levAts L lv ∗ mid m π c k (by omega) j j' ∗ (mid m π c (k + 1) hk j' j -∗ run c (p ⟨⟩) Q))
      ⊢ run c (.op (.enqueueDma (bQ ⟨k, by omega⟩) (.remote (Dev.tc n : Thread nD τ) (oQ ⟨k, by omega⟩) (.dma (sSem ⟨k, by omega⟩)) hsc)
          (.dma (rSem ⟨k, by omega⟩)) h₁ h₂ h₃) fun _ =>
        .op (.waitDma2 (fSem j') (xQ ⟨k + 1, by omega⟩) (fQ j') h₄ h₅) fun _ =>
        .op (.enqueueDma (xQ ⟨k + 2, hk⟩) (.here (fQ j)) (.dma (fSem j)) h₆ h₇ h₈) fun _ =>
        .op (.load fA (fR j').toLoadRect h₉) fun v =>
        .op (.load bA (bR ⟨k + 1, by omega⟩).toLoadRect h₁₀) fun _ =>
        .op (.store bA (bR ⟨k + 1, by omega⟩) (pay v) Finset.univ h₁₁ h₁₂) p) Q := by
  have hk₀ : k < 8 := by omega
  have hk₁ : k + 1 < 8 := by omega
  have e₁ := Entails.of_eq (from_step (bAny (F := F) c) (k + 1) (by omega))
  have e₂ := Entails.of_eq (from_step (xOwn m c) (k + 2) hk)
  have e₃ := Entails.of_eq (upto_step (xOwn m c) (k + 1) (by omega)).symm
  unfold mid
  iintro ⟨HR, #Hl, ⟨Hsend, Hb, Hbs, Hf, Hslot, Hv, Hx, Hxs⟩, Hk⟩
  icases e₁ $$ Hbs with ⟨Hb', Hbs⟩
  icases e₂ $$ Hx with ⟨Hx', Hx⟩
  iapply (send_next m π K c n hn ⟨k, hk₀⟩)
  isplitl [HR]; · iexact HR
  isplitl [Hb]; · iexact Hb
  isplitl [Hsend]; · iexact Hsend
  iintro Hsend
  unfold toSend
  icases Hsend with ⟨Ho, Hs, Hr, Hc, HO⟩
  iapply (fetched_step m π c ⟨k + 1, hk₁⟩ j' (k + 1))
  isplitl [Hf]; · iexact Hf
  isplitr; · iexact Hl
  isplitl [HO]; · iexact HO
  iintro ⟨Hslot', Hx₁, Hv', HO⟩
  iapply (fetch_step m c ⟨k + 2, hk⟩ j)
  isplitl [Hx']; · iexact Hx'
  isplitl [Hslot]; · iexact Hslot
  isplitl [Hv]; · iexact Hv
  iintro Hf
  iapply (stage_step c j' ⟨k + 1, hk₁⟩ _ hpay)
  isplitl [Hslot']; · iexact Hslot'
  isplitl [Hb']; · iexact Hb'
  iintro ⟨Hslot', Hb'⟩
  iapply Hk
  isplitl [Ho Hs Hr Hc HO]
  · isplitl [Ho]; · iexact Ho
    isplitl [Hs]; · iexact Hs
    isplitl [Hr]; · iexact Hr
    isplitl [Hc]; · iexact Hc
    iexact HO
  isplitl [Hb']; · iexact Hb'
  isplitl [Hbs]; · iexact Hbs
  isplitl [Hf]; · iexact Hf
  isplitl [Hslot']; · iexists _; iexact Hslot'
  isplitl [Hv']; · iexact Hv'
  isplitl [Hx]; · iexact Hx
  iapply e₃
  isplitl [Hx₁]; · iexact Hx₁
  iexact Hxs

/-- After the last turn and the last send: everything sent, the operand whole again. -/
def allSent (c : Dev nD) (j j' : Fin 2) : sProp 𝕄 :=
  iprop(Upto 8 (sCred (F := F) c) ∗ owing c 0 ∗ fAny c j ∗ semVal (fetchCell c j) 0 ∗ fAny c j' ∗ semVal (fetchCell c j') 0 ∗ Upto 8 (xOwn m c))

/-- The last turn, which has nothing more to fetch, with the send of the last slab. -/
theorem last_turn {α : Type} (c n n' : Dev nD) (hn : n = π c) (hn' : n' = π c) (j j' : Fin 2)
    {pay : (S1x512x2048.Idx → Elt F .bf16) → S1x512x2048.Idx → Elt F .bf16} (hpay : ∀ v, pay v = v)
    {hsc : (oQ 6).view.ref.isScScratch = false} {hsc' : (oQ 7).view.ref.isScScratch = false}
    {h₁ : (bQ 6).view.WordExact} {h₂ : (oQ 6).view.WordExact}
    {h₃ : DmaTarget.Typed (nD := nD) .vmem (.dma (rSem 6)) (.remote (p := .tc) (Dev.tc n : Thread nD τ) (oQ 6) (.dma (sSem 6)) hsc)}
    {h₄ : (xQ 7).view.WordExact} {h₅ : (fQ j').view.WordExact}
    {h₆ : (bQ 7).view.WordExact} {h₇ : (oQ 7).view.WordExact}
    {h₈ : DmaTarget.Typed (nD := nD) .vmem (.dma (rSem 7)) (.remote (p := .tc) (Dev.tc n' : Thread nD τ) (oQ 7) (.dma (sSem 7)) hsc')}
    {h₉ : fA.view.LoadsAt (fR j').toLoadRect} {h₁₀ : bA.view.LoadsAt (bR 7).toLoadRect}
    {h₁₁ : (bA.access (bR 7)).Stores Finset.univ}
    {h₁₂ : (Finset.univ : Finset (bR 7).shape.Idx) = Finset.univ ∨ ∀ a, (bR 7).stride a = 1}
    {p : PUnit → Code F α} {Q : α → sProp 𝕄} :
    iprop(records m π K ∗ levAts L lv ∗ mid m π c 6 (by decide) j j' ∗ (allSent m c j j' -∗ run c (p ⟨⟩) Q))
      ⊢ run c (.op (.enqueueDma (bQ 6) (.remote (Dev.tc n : Thread nD τ) (oQ 6) (.dma (sSem 6)) hsc) (.dma (rSem 6)) h₁ h₂ h₃) fun _ =>
        .op (.waitDma2 (fSem j') (xQ 7) (fQ j') h₄ h₅) fun _ =>
        .op (.load fA (fR j').toLoadRect h₉) fun v =>
        .op (.load bA (bR 7).toLoadRect h₁₀) fun _ =>
        .op (.store bA (bR 7) (pay v) Finset.univ h₁₁ h₁₂) fun _ =>
        .op (.enqueueDma (bQ 7) (.remote (Dev.tc n' : Thread nD τ) (oQ 7) (.dma (sSem 7)) hsc') (.dma (rSem 7)) h₆ h₇ h₈) p) Q := by
  have e₁ := Entails.of_eq (from_step (bAny (F := F) c) 7 (by omega))
  have e₃ := Entails.of_eq (upto_step (xOwn m c) 7 (by omega)).symm
  unfold mid allSent
  iintro ⟨#HR, #Hl, ⟨Hsend, Hb, Hbs, Hf, Hslot, Hv, -, Hxs⟩, Hk⟩
  icases e₁ $$ Hbs with ⟨Hb', -⟩
  iapply (send_next m π K c n hn 6)
  isplitr; · iexact HR
  isplitl [Hb]; · iexact Hb
  isplitl [Hsend]; · iexact Hsend
  iintro Hsend
  unfold toSend
  icases Hsend with ⟨Ho, Hs, Hr, Hc, HO⟩
  iapply (fetched_step m π c 7 j' 7)
  isplitl [Hf]; · iexact Hf
  isplitr; · iexact Hl
  isplitl [HO]; · iexact HO
  iintro ⟨Hslot', Hx₁, Hv', HO⟩
  iapply (stage_step c j' 7 _ hpay)
  isplitl [Hslot']; · iexact Hslot'
  isplitl [Hb']; · iexact Hb'
  iintro ⟨Hslot', Hb'⟩
  iapply (send_next m π K c n' hn' 7)
  isplitr; · iexact HR
  isplitl [Hb']; · iexact Hb'
  unfold toSend
  isplitl [Ho Hs Hr Hc HO]
  · isplitl [Ho]; · iexact Ho
    isplitl [Hs]; · iexact Hs
    isplitl [Hr]; · iexact Hr
    isplitl [Hc]; · iexact Hc
    iexact HO
  iintro ⟨-, -, -, Hc, HO⟩
  iapply Hk
  isplitl [Hc]; · iexact Hc
  isplitl [HO]; · rw [show Orem π c ((7 : Fin 8).val + 1) = 0 from Orem_last π c]; iexact HO
  isplitl [Hslot]; · iexact Hslot
  isplitl [Hv]; · iexact Hv
  isplitl [Hslot']; · iexists _; iexact Hslot'
  isplitl [Hv']; · iexact Hv'
  iapply e₃
  isplitl [Hx₁]; · iexact Hx₁
  iexact Hxs

/-! ## The closing waits -/

abbrev sAt (c : Dev nD) (k : Fin 8) : sProp 𝕄 := atPos ER (sendCell c k) 0 ∅ 0
abbrev rAt (c : Dev nD) (k : Fin 8) : sProp 𝕄 := atPos ER (recvCell c k) 0 ∅ 0
abbrev rCred (c : Dev nD) (k : Fin 8) : sProp 𝕄 := cred (tallyAt (recvCell c k) () N)
abbrev sDone (c : Dev nD) (k : Fin 8) : sProp 𝕄 := semVal (sendCell c k) 0
abbrev rDone (c : Dev nD) (k : Fin 8) : sProp 𝕄 := semVal (recvCell c k) 0

/-- The departures below `k` waited for. -/
def sent (c : Dev nD) (k : ℕ) : sProp 𝕄 :=
  iprop(From k (sCred (F := F) c) ∗ From k (sAt (F := F) c) ∗ Upto k (bAny (F := F) c) ∗ Upto k (sDone (F := F) c) ∗ owing c 0)
/-- The arrivals below `k` waited for. -/
def received (c : Dev nD) (k : ℕ) : sProp 𝕄 :=
  iprop(From k (rCred (F := F) c) ∗ From k (rAt (F := F) c) ∗ Upto k (recvPay m π c) ∗ Upto k (rDone (F := F) c) ∗ owing c 0)

theorem sent_next {α : Type} (c : Dev nD) (k : ℕ) (hk : k < 8) {hs : (oQ ⟨k, hk⟩).view.WordExact} {hd : (bQ ⟨k, hk⟩).view.WordExact}
    {p : PUnit → Code F α} {Q : α → sProp 𝕄} :
    iprop(records m π K ∗ sent c k ∗ (sent c (k + 1) -∗ run c (p ⟨⟩) Q))
      ⊢ run c (.op (.waitDma2 (sSem ⟨k, hk⟩) (oQ ⟨k, hk⟩) (bQ ⟨k, hk⟩) hs hd) p) Q := by
  have e₁ := Entails.of_eq (from_step (sCred (F := F) c) k hk)
  have e₂ := Entails.of_eq (from_step (sAt (F := F) c) k hk)
  have e₃ := Entails.of_eq (upto_step (bAny (F := F) c) k hk).symm
  have e₄ := Entails.of_eq (upto_step (sDone (F := F) c) k hk).symm
  unfold sent
  iintro ⟨HR, ⟨Hc, Ha, Hb, Hd, HO⟩, Hk⟩
  icases e₁ $$ Hc with ⟨Hc', Hc⟩
  icases e₂ $$ Ha with ⟨Ha', Ha⟩
  iapply (sent_step m π K c ⟨k, hk⟩)
  isplitl [HR]; · iexact HR
  isplitl [Hc']; · iexact Hc'
  isplitl [HO]; · iexact HO
  isplitl [Ha']; · iexact Ha'
  iintro ⟨Hb', Hd', HO⟩
  iapply Hk
  isplitl [Hc]; · iexact Hc
  isplitl [Ha]; · iexact Ha
  isplitl [Hb Hb']
  · iapply e₃
    isplitl [Hb']; · unfold sendPay; iexact Hb'
    iexact Hb
  isplitl [Hd Hd']
  · iapply e₄
    isplitl [Hd']; · iexact Hd'
    iexact Hd
  iexact HO

theorem received_next {α : Type} (c : Dev nD) (k : ℕ) (hk : k < 8) {hs : (bQ ⟨k, hk⟩).view.WordExact} {hd : (oQ ⟨k, hk⟩).view.WordExact}
    {p : PUnit → Code F α} {Q : α → sProp 𝕄} :
    iprop(records m π K ∗ received m π c k ∗ (received m π c (k + 1) -∗ run c (p ⟨⟩) Q))
      ⊢ run c (.op (.waitDma2 (rSem ⟨k, hk⟩) (bQ ⟨k, hk⟩) (oQ ⟨k, hk⟩) hs hd) p) Q := by
  have e₁ := Entails.of_eq (from_step (rCred (F := F) c) k hk)
  have e₂ := Entails.of_eq (from_step (rAt (F := F) c) k hk)
  have e₃ := Entails.of_eq (upto_step (recvPay m π c) k hk).symm
  have e₄ := Entails.of_eq (upto_step (rDone (F := F) c) k hk).symm
  unfold received
  iintro ⟨HR, ⟨Hc, Ha, Hb, Hd, HO⟩, Hk⟩
  icases e₁ $$ Hc with ⟨Hc', Hc⟩
  icases e₂ $$ Ha with ⟨Ha', Ha⟩
  iapply (received_step m π K c ⟨k, hk⟩)
  isplitl [HR]; · iexact HR
  isplitl [Hc']; · iexact Hc'
  isplitl [HO]; · iexact HO
  isplitl [Ha']; · iexact Ha'
  iintro ⟨Hb', Hd', HO⟩
  iapply Hk
  isplitl [Hc]; · iexact Hc
  isplitl [Ha]; · iexact Ha
  isplitl [Hb Hb']
  · iapply e₃
    isplitl [Hb']; · iexact Hb'
    iexact Hb
  isplitl [Hd Hd']
  · iapply e₄
    isplitl [Hd']; · iexact Hd'
    iexact Hd
  iexact HO

end Cert.RouteProof

end
-- ==== Proof.Body.lean ====
/-
# The kernel's body on one device

The table names the devices; the body runs by the rules of `Steps` and `Turns`.
-/
module

public import proofs.«01_k».proof.Proof.Turns

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (π : Equiv.Perm (Dev nD))

variable (K : Dev nD × Port → ℕ)

abbrev tA : Memref sig .tc .smem S4 .i32 := Memref.whole cc0_stg0_0
abbrev Table : Type := S4.Idx → BitVec 32

/-- The word the kernel reads at an offset of its staged table. -/
abbrev wordAt (tb : Table) (o : Fin 1 → ℕ) (ho : ∀ a, o a + S1.size a ≤ S4.size a) : BitVec 32 :=
  (tA.access (Rect.unit (s := S4) o S1.size ho) : View sig .tc _ _ _).read (Elt F) tb (Shape.Idx.first (s := S1) (numel1_S1.symm ▸ Nat.one_pos))

abbrev wordOwn (c : Dev nD) (tb : Table) : BitVec 32 := wordAt (F := F) tb (k0_off1 c) (k0_off1_inb c)
abbrev word0 (tb : Table) : BitVec 32 := wordAt (F := F) tb ![0] inb_S4_S1_0
abbrev word1 (tb : Table) : BitVec 32 := wordAt (F := F) tb ![1] inb_S4_S1_1
abbrev word2 (tb : Table) : BitVec 32 := wordAt (F := F) tb ![2] inb_S4_S1_2

/-- The table sends device `c` to `π c`: so says every device number the kernel computes of it. -/
structure Routed (c : Dev nD) (tb : Table) : Prop where
  own : k0_dev1 c (wordOwn (F := F) c tb) = (π c).val
  back : k0_dev2 c (word0 (F := F) tb) (word1 (F := F) tb) (word2 (F := F) tb) = (π.symm c).val

namespace Routed

variable {π}
variable {c : Dev nD} {tb : Table} (h : Routed (F := F) π c tb)

include h in
theorem chk : k0_chk1 c (wordOwn (F := F) c tb) := by
  have hd : k0_dev1 c (wordOwn (F := F) c tb) < nD := by rw [h.own]; exact (π c).isLt
  exact ⟨hd, hd, hd, hd, hd, hd, hd, hd, hd⟩
include h in
theorem dst {n : ℕ} (hn : n < nD) (e : n = k0_dev1 c (wordOwn (F := F) c tb)) : (⟨n, hn⟩ : Dev nD) = π c := Fin.ext (e.trans h.own)
include h in
theorem src {n : ℕ} (hn : n < nD) (e : n = k0_dev2 c (word0 (F := F) tb) (word1 (F := F) tb) (word2 (F := F) tb)) :
    (⟨n, hn⟩ : Dev nD) = π.symm c := Fin.ext (e.trans h.back)

end Routed

/-- Each payload of the kernel drops the unit axis of what it read and puts it back. -/
theorem cast_back (v : S1x512x2048.Idx → Elt F .bf16) (h : S1x512x2048.ShapeCasts S512x2048) (h' : S512x2048.ShapeCasts S1x512x2048) :
    shapeCast S1x512x2048 (shapeCast S512x2048 v h) h' = v := shapeCast_shapeCast v h h'
theorem pay_first (v : S1x512x2048.Idx → Elt F .bf16) : k0_pay1 (F := F) v = v := cast_back v _ _
theorem pay_second (v : S1x512x2048.Idx → Elt F .bf16) : k0_pay3 (F := F) (k0_pay2 v) = v := cast_back v _ _
theorem pay_even (v : S1x512x2048.Idx → Elt F .bf16) : k0_pay4 (F := F) v = v ∧ k0_pay6 (F := F) v = v ∧ k0_pay8 (F := F) v = v :=
  ⟨cast_back v _ _, cast_back v _ _, cast_back v _ _⟩
theorem pay_odd (v : S1x512x2048.Idx → Elt F .bf16) : k0_pay5 (F := F) v = v ∧ k0_pay7 (F := F) v = v ∧ k0_pay9 (F := F) v = v :=
  ⟨cast_back v _ _, cast_back v _ _, cast_back v _ _⟩

/-- Everything the body starts from, beside the records and the levels. -/
def bodyPre (c : Dev nD) (tb : Table) : sProp 𝕄 :=
  iprop((((c : Thread nD τ).loc cc0_stg0_0) ↦{fullShare} (tb : Buf (Elt F) ((c : Thread nD τ).loc cc0_stg0_0)))
    ∗ owing c (O₀ π c)
    ∗ (dutyTok ER (barCell (π c)) 0 false ∗ dutyTok ER (barCell (π.symm c)) 0 true ∗ From 0 (sTok (F := F) c) ∗ From 0 (rTok (F := F) (π c)))
    ∗ (cred (tallyAt (barCell c) () 2) ∗ From 0 (rCred (F := F) c))
    ∗ (atPos ER (barCell c) 0 ∅ 0 ∗ From 0 (sAt (F := F) c) ∗ From 0 (rAt (F := F) c))
    ∗ (semVal (fetchCell c 0) 0 ∗ semVal (fetchCell c 1) 0)
    ∗ From 0 (xOwn m c) ∗ outSlabs c ∗ (fAny c 0 ∗ fAny c 1) ∗ From 0 (bAny (F := F) c))

/-- What it ends with. -/
def bodyPost (c : Dev nD) (tb : Table) : sProp 𝕄 :=
  iprop((((c : Thread nD τ).loc cc0_stg0_0) ↦{fullShare} (tb : Buf (Elt F) ((c : Thread nD τ).loc cc0_stg0_0)))
    ∗ (semVal (fetchCell c 0) 0 ∗ semVal (fetchCell c 1) 0 ∗ semVal (barCell c) 0) ∗ (fAny c 0 ∗ fAny c 1)
    ∗ Upto 8 (xOwn m c) ∗ Upto 8 (bAny (F := F) c) ∗ Upto 8 (sDone (F := F) c) ∗ received m π c 8)

set_option maxRecDepth 10000 in
set_option maxHeartbeats 4000000 in
theorem sound_body (c : Dev nD) (tb : Table) (hr : Routed (F := F) π c tb) (Q : Unit → sProp 𝕄) :
    iprop(records m π K ∗ levAts L lv ∗ bodyPre m π c tb ∗ (bodyPost m π c tb -∗ Q ⟨⟩))
      ⊢ run c (cc0_body (F := F) (Memref.whole main_arg0) (Memref.isWhole_whole _) (Memref.whole cc0_stg0_0) (Memref.isWhole_whole _)
          (Memref.whole main_v1) (Memref.isWhole_whole _) (Memref.whole cc0_scratch0) (Memref.isWhole_whole _)
          (Memref.whole cc0_scratch1) (Memref.isWhole_whole _) cc0_scratch2 cc0_scratch3 cc0_scratch4) Q := by
  unfold run
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, semSignalWord, semWaitWord, smemLoad, smemLoadElt, Prog.lift, Prog.bind_op,
    Prog.bind_ret, Prog.pure_eq_ret, Prog.bind_assoc, wp_deviceId]
  unfold bodyPre
  iintro ⟨#HR, #Hl, ⟨Ht, HO, ⟨Hbd, Hbs, Hst, Hrt⟩, ⟨Hcb, Hrc⟩, ⟨Hab, Has, Har⟩, ⟨Hv0, Hv1⟩, Hx, Hout, ⟨Hf0, Hf1⟩, Hb⟩, Hk⟩
  -- the words of the table
  iapply (wp_load_rect 𝒱₀ (c : Thread nD τ) none Set.univ (m := tA) (r := Rect.unit (s := S4) (k0_off1 c) S1.size (k0_off1_inb c))
    (Finset.subset_univ _)) $$ Ht
  iintro Ht
  simp only [wp_assume_of _ _ _ _ (d := k0_chk1.dec _ _) hr.chk]
  iapply (wp_load_rect 𝒱₀ (c : Thread nD τ) none Set.univ (m := tA) (r := Rect.unit (s := S4) ![0] S1.size inb_S4_S1_0) (Finset.subset_univ _)) $$ Ht
  iintro Ht
  iapply (wp_load_rect 𝒱₀ (c : Thread nD τ) none Set.univ (m := tA) (r := Rect.unit (s := S4) ![1] S1.size inb_S4_S1_1) (Finset.subset_univ _)) $$ Ht
  iintro Ht
  iapply (wp_load_rect 𝒱₀ (c : Thread nD τ) none Set.univ (m := tA) (r := Rect.unit (s := S4) ![2] S1.size inb_S4_S1_2) (Finset.subset_univ _)) $$ Ht
  iintro Ht
  simp only [wp_assume_of _ _ _ _ (d := k0_chk2.dec _ _ _ _) (k0_chk2_all _ _ _ _)]
  -- the two signals
  iapply (signal_dst_step m π K c _ (hr.dst _ rfl))
  isplitr; · iexact HR
  isplitl [HO]; · iexact HO
  isplitl [Hbd]; · iexact Hbd
  iintro HO
  iapply (signal_src_step m π K c _ (hr.src _ rfl))
  isplitr; · iexact HR
  isplitl [HO]; · iexact HO
  isplitl [Hbs]; · iexact Hbs
  isplitl [Hout]; · iexact Hout
  iintro HO
  have ex₀ := Entails.of_eq (from_step (xOwn m c) 0 (by decide))
  have ex₁ := Entails.of_eq (from_step (xOwn m c) 1 (by decide))
  have eb₀ := Entails.of_eq (from_step (bAny (F := F) c) 0 (by decide))
  icases ex₀ $$ Hx with ⟨Hx0, Hx⟩
  icases ex₁ $$ Hx with ⟨Hx1, Hx⟩
  icases eb₀ $$ Hb with ⟨Hb0, Hb⟩
  iapply (fetch_step m c 0 0)
  isplitl [Hx0]; · iexact Hx0
  isplitl [Hf0]; · iexact Hf0
  isplitl [Hv0]; · iexact Hv0
  iintro Hfl
  iapply (fetched_step m π c 0 0 0)
  isplitl [Hfl]; · iexact Hfl
  isplitr; · iexact Hl
  isplitl [HO]; · iexact HO
  iintro ⟨Hf0, Hx0, Hv0, HO⟩
  iapply (fetch_step m c 1 1)
  isplitl [Hx1]; · iexact Hx1
  isplitl [Hf1]; · iexact Hf1
  isplitl [Hv1]; · iexact Hv1
  iintro Hfl
  iapply (stage_step c 0 0 _ (pay := k0_pay1) pay_first)
  isplitl [Hf0]; · iexact Hf0
  isplitl [Hb0]; · iexact Hb0
  iintro ⟨Hf0, Hb0⟩
  iapply (barrier_step m π K c)
  isplitr; · iexact HR
  isplitl [Hcb]; · iexact Hcb
  isplitl [HO]; · iexact HO
  isplitr; · iexact Hl
  isplitl [Hab]; · iexact Hab
  iintro ⟨Hdst, Hvb, HO⟩
  -- slab 0 staged, slab 1 in flight, every result slab of the device ahead in hand: the turns
  have et := Entails.of_eq (upto_step (xOwn m c) 0 (by decide)).symm
  ihave Hm : mid m π c 0 (by decide) 0 1 $$ [Hdst Hst Hrt HO Hb0 Hb Hfl Hf0 Hv0 Hx Hx0]
  · unfold mid toSend
    isplitl [Hdst Hst Hrt HO]
    · isplitl [Hdst]; · rw [from_zero]; unfold outSlabs; iexact Hdst
      isplitl [Hst]; · iexact Hst
      isplitl [Hrt]; · iexact Hrt
      isplitr; · rw [upto_zero]; iempintro
      iexact HO
    isplitl [Hb0]; · iexact Hb0
    isplitl [Hb]; · iexact Hb
    isplitl [Hfl]; · iexact Hfl
    isplitl [Hf0]; · iexists _; iexact Hf0
    isplitl [Hv0]; · iexact Hv0
    isplitl [Hx]; · iexact Hx
    iapply et
    isplitl [Hx0]; · iexact Hx0
    rw [upto_zero]; iempintro
  iapply (turn m π K c _ (hr.dst _ rfl) 0 (by decide) 0 1 (pay := fun v => k0_pay3 (k0_pay2 v)) pay_second)
  isplitr; · iexact HR
  isplitr; · iexact Hl
  isplitl [Hm]; · iexact Hm
  iintro Hm
  iapply (turn m π K c _ (hr.dst _ rfl) 1 (by decide) 1 0 (pay := k0_pay4) (fun v => (pay_even v).1))
  isplitr; · iexact HR
  isplitr; · iexact Hl
  isplitl [Hm]; · iexact Hm
  iintro Hm
  iapply (turn m π K c _ (hr.dst _ rfl) 2 (by decide) 0 1 (pay := k0_pay5) (fun v => (pay_odd v).1))
  isplitr; · iexact HR
  isplitr; · iexact Hl
  isplitl [Hm]; · iexact Hm
  iintro Hm
  iapply (turn m π K c _ (hr.dst _ rfl) 3 (by decide) 1 0 (pay := k0_pay6) (fun v => (pay_even v).2.1))
  isplitr; · iexact HR
  isplitr; · iexact Hl
  isplitl [Hm]; · iexact Hm
  iintro Hm
  iapply (turn m π K c _ (hr.dst _ rfl) 4 (by decide) 0 1 (pay := k0_pay7) (fun v => (pay_odd v).2.1))
  isplitr; · iexact HR
  isplitr; · iexact Hl
  isplitl [Hm]; · iexact Hm
  iintro Hm
  iapply (turn m π K c _ (hr.dst _ rfl) 5 (by decide) 1 0 (pay := k0_pay8) (fun v => (pay_even v).2.2))
  isplitr; · iexact HR
  isplitr; · iexact Hl
  isplitl [Hm]; · iexact Hm
  iintro Hm
  iapply (last_turn m π K c _ _ (hr.dst _ rfl) (hr.dst _ rfl) 0 1 (pay := k0_pay9) (fun v => (pay_odd v).2.2))
  isplitr; · iexact HR
  isplitr; · iexact Hl
  isplitl [Hm]; · iexact Hm
  unfold allSent
  iintro ⟨Hsc, HO, Hf0, Hv0, Hf1, Hv1, Hx⟩
  -- the departures
  have es := Entails.of_eq ((upto_last (sCred (F := F) c)).trans (from_zero (sCred (F := F) c)).symm)
  ihave Hm : sent c 0 $$ [Hsc Has HO]
  · unfold sent
    isplitl [Hsc]; · iapply es $$ Hsc
    isplitl [Has]; · iexact Has
    isplitr; · rw [upto_zero]; iempintro
    isplitr; · rw [upto_zero]; iempintro
    iexact HO
  iapply (sent_next m π K c 0 (by decide))
  isplitr; · iexact HR
  isplitl [Hm]; · iexact Hm
  iintro Hm
  iapply (sent_next m π K c 1 (by decide))
  isplitr; · iexact HR
  isplitl [Hm]; · iexact Hm
  iintro Hm
  iapply (sent_next m π K c 2 (by decide))
  isplitr; · iexact HR
  isplitl [Hm]; · iexact Hm
  iintro Hm
  iapply (sent_next m π K c 3 (by decide))
  isplitr; · iexact HR
  isplitl [Hm]; · iexact Hm
  iintro Hm
  iapply (sent_next m π K c 4 (by decide))
  isplitr; · iexact HR
  isplitl [Hm]; · iexact Hm
  iintro Hm
  iapply (sent_next m π K c 5 (by decide))
  isplitr; · iexact HR
  isplitl [Hm]; · iexact Hm
  iintro Hm
  iapply (sent_next m π K c 6 (by decide))
  isplitr; · iexact HR
  isplitl [Hm]; · iexact Hm
  iintro Hm
  iapply (sent_next m π K c 7 (by decide))
  isplitr; · iexact HR
  isplitl [Hm]; · iexact Hm
  iintro Hm
  unfold sent
  icases Hm with ⟨-, -, Hb, Hsd, HO⟩
  -- the arrivals
  ihave Hm : received m π c 0 $$ [Hrc Har HO]
  · unfold received
    isplitl [Hrc]; · iexact Hrc
    isplitl [Har]; · iexact Har
    isplitr; · rw [upto_zero]; iempintro
    isplitr; · rw [upto_zero]; iempintro
    iexact HO
  iapply (received_next m π K c 0 (by decide))
  isplitr; · iexact HR
  isplitl [Hm]; · iexact Hm
  iintro Hm
  iapply (received_next m π K c 1 (by decide))
  isplitr; · iexact HR
  isplitl [Hm]; · iexact Hm
  iintro Hm
  iapply (received_next m π K c 2 (by decide))
  isplitr; · iexact HR
  isplitl [Hm]; · iexact Hm
  iintro Hm
  iapply (received_next m π K c 3 (by decide))
  isplitr; · iexact HR
  isplitl [Hm]; · iexact Hm
  iintro Hm
  iapply (received_next m π K c 4 (by decide))
  isplitr; · iexact HR
  isplitl [Hm]; · iexact Hm
  iintro Hm
  iapply (received_next m π K c 5 (by decide))
  isplitr; · iexact HR
  isplitl [Hm]; · iexact Hm
  iintro Hm
  iapply (received_next m π K c 6 (by decide))
  isplitr; · iexact HR
  isplitl [Hm]; · iexact Hm
  iintro Hm
  iapply (received_next m π K c 7 (by decide))
  isplitr; · iexact HR
  isplitl [Hm]; · iexact Hm
  iintro Hm
  unfold run; rw [wp_ret]; imodintro
  iapply Hk
  unfold bodyPost
  isplitl [Ht]; · iexact Ht
  isplitl [Hv0 Hv1 Hvb]
  · isplitl [Hv0]; · iexact Hv0
    isplitl [Hv1] <;> iassumption
  isplitl [Hf0 Hf1]; · isplitl [Hf0] <;> iassumption
  isplitl [Hx]; · iexact Hx
  isplitl [Hb]; · iexact Hb
  isplitl [Hsd]; · iexact Hsd
  iexact Hm

end Cert.RouteProof

end
-- ==== Proof.Ghost.lean ====
/-
# The exchange's ghost state at launch

Every device mints the duty tokens of its own cells: one for each of its seventeen cells, and a second one for its barrier
cell. The tokens then move to the devices that pay the duties: the first barrier token and the receive tokens of `π c` go
to `c`, the second barrier token of `π⁻¹ c` goes to `c`, the send tokens stay. The invariants are shared by all.
-/
module

public import proofs.«01_k».proof.Proof.Body

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (π : Equiv.Perm (Dev nD))

/-! ## Minting -/

theorem psem_inj : Function.Injective psem := by
  rintro (_ | k | k) (_ | k' | k') h
  · rfl
  · exact absurd h.symm (dma_ne_bar _)
  · exact absurd h.symm (dma_ne_bar _)
  · exact absurd h (dma_ne_bar _)
  · exact congrArg (fun k => Sum.inr (Sum.inl k)) (sSem_inj _ _ h)
  · exact absurd h (sSem_ne_rSem _ _)
  · exact absurd h (dma_ne_bar _)
  · exact absurd h.symm (sSem_ne_rSem _ _)
  · exact congrArg (fun k => Sum.inr (Sum.inr k)) (rSem_inj _ _ h)

theorem gcell_inj {c c' : Dev nD} {s s' : SemLoc sig} (h : ((c : Thread nD τ), s) = ((c' : Thread nD τ), s')) : c = c' ∧ s = s' :=
  ⟨congrArg (fun g : GSem nD τ sig => g.1.1) h, congrArg Prod.snd h⟩

theorem pcell_inj : Function.Injective (pcell : Dev nD × Port → GSem nD τ sig) := fun a b h =>
  Prod.ext (gcell_inj h).1 (psem_inj (gcell_inj h).2)

/-- The duty tokens of a device's own cells: one for each cell, a second for the barrier cell. -/
abbrev mint (cj : Dev nD × (Port ⊕ Unit)) : GSem nD τ sig × ℕ × Bool := match cj.2 with
  | .inl p => (pcell (cj.1, p), 0, false)
  | .inr _ => (barCell cj.1, 0, true)

theorem mint_inj : Function.Injective mint := by
  rintro ⟨c, p | _⟩ ⟨c', p' | _⟩ h
  · have := pcell_inj (congrArg Prod.fst h); cases this; rfl
  · cases congrArg (fun x : GSem nD τ sig × ℕ × Bool => x.2.2) h
  · cases congrArg (fun x : GSem nD τ sig × ℕ × Bool => x.2.2) h
  · have := (gcell_inj (congrArg Prod.fst h)).1; cases this; rfl

def minted : Finset (GSem nD τ sig) := Finset.univ.map ⟨pcell, pcell_inj⟩
def mintedToks : Finset (GSem nD τ sig × ℕ × Bool) := Finset.univ.map ⟨mint, mint_inj⟩

/-- A device's share of the launch's ghost element. -/
def ownToks (c : Dev nD) : sProp 𝕄 :=
  iprop((bigSep Finset.univ fun p : Port => dutyTok ER (pcell (c, p)) 0 false) ∗ dutyTok ER (barCell c) 0 true)
def positions (c : Dev nD) : sProp 𝕄 := bigSep Finset.univ fun p : Port => atPos ER (pcell (c, p)) 0 ∅ 0
def share (c : Dev nD) : sProp 𝕄 :=
  iprop((bigSep Finset.univ fun p : Port => roundState ER (Rd m π) (pcell (c, p)) 0)
    ∗ positions c ∗ (bigSep Finset.univ fun p : Port => reached ER (pcell (c, p)) 0) ∗ ownToks c)

theorem over_unit (Φ : Unit → sProp 𝕄) : bigSep Finset.univ Φ = Φ () :=
  bigSep_univ_eq_bigSepL [()] (by decide) (by decide) Φ
theorem over_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem over_port (Φ : Port → sProp 𝕄) : bigSep Finset.univ Φ
    = iprop(Φ (.inl ()) ∗ (bigSep Finset.univ fun k => Φ (.inr (.inl k))) ∗ bigSep Finset.univ fun k => Φ (.inr (.inr k))) := by
  rw [over_sum, over_unit, over_sum]

theorem fund : BI.own (ER (initOf minted mintedToks)) ⊢ (|==> bigSep Finset.univ (share m π) : sProp 𝕄) := by
  have hc (Φ : GSem nD τ sig → sProp 𝕄) :
      bigSep minted Φ = bigSep Finset.univ fun c : Dev nD => bigSep Finset.univ fun p : Port => Φ (pcell (c, p)) := by
    unfold minted; rw [bigSep_map, bigSep_univ_prod]; rfl
  have ht : bigSep mintedToks (fun x => (dutyTok ER x.1 x.2.1 x.2.2 : sProp 𝕄)) = bigSep Finset.univ fun c : Dev nD => ownToks c := by
    unfold mintedToks; rw [bigSep_map, bigSep_univ_prod]
    exact bigSep_congr fun c _ => by unfold ownToks; rw [over_sum, over_unit]; rfl
  have e₁ := Entails.of_eq (hc fun g => roundState ER (Rd m π) g 0)
  have e₂ := Entails.of_eq (hc fun g => reached ER g 0)
  have e₃ := Entails.of_eq (hc fun g => atPos ER g 0 ∅ 0)
  have e₄ := Entails.of_eq ht
  have e₅ : iprop((bigSep Finset.univ fun c : Dev nD => bigSep Finset.univ fun p : Port => roundState ER (Rd m π) (pcell (c, p)) 0)
      ∗ (bigSep Finset.univ fun c : Dev nD => positions c)
      ∗ (bigSep Finset.univ fun c : Dev nD => bigSep Finset.univ fun p : Port => reached ER (pcell (c, p)) 0)
      ∗ bigSep Finset.univ fun c : Dev nD => ownToks c) ⊢ (bigSep Finset.univ (share m π) : sProp 𝕄) := by
    refine Entails.of_eq ?_
    rw [← bigSep_sep', ← bigSep_sep', ← bigSep_sep']; rfl
  iintro H
  imod (Rounds.fund ER (Rd m π) minted mintedToks) $$ H with ⟨Hs, Hr, Ha, Ht⟩
  imodintro
  iapply e₅
  isplitl [Hs]; · iapply e₁ $$ Hs
  isplitl [Ha]; · iapply e₃ $$ Ha
  isplitl [Hr]; · iapply e₂ $$ Hr
  iapply e₄ $$ Ht

/-! ## The semaphores at zero -/

/-- The fetch semaphores, which carry no round. -/
def fetchSems (c : Dev nD) : sProp 𝕄 := iprop(semVal (fetchCell c 0) 0 ∗ semVal (fetchCell c 1) 0)

theorem fetchSems_eq (c : Dev nD) : (bigSep Finset.univ fun j : Fin 2 => (semVal (fetchCell c j) 0 : sProp 𝕄)) = fetchSems c :=
  bigSep_univ_eq_bigSepL [0, 1] (by decide) (by decide) _

theorem ownSems0_eq (c : Dev nD) : (Pipeline.ownSems0 (Ix := Unit) (Name := ℕ) (U := UU) (Lvl := ℕ) (Val := Elt F) (τ := τ) osem c : sProp 𝕄)
    = iprop(fetchSems c ∗ (bigSep Finset.univ fun k => sDone (F := F) c k) ∗ bigSep Finset.univ fun k => rDone (F := F) c k) := by
  unfold Pipeline.ownSems0; rw [over_sum, over_sum, ← fetchSems_eq]

theorem unscopedSems0_eq (c : Dev nD) : (unscopedSems0 c : sProp 𝕄) = semVal (barCell c) 0 := by
  unfold unscopedSems0; rw [bigSep_eq_bigSepL_of_eq [SemLoc.reg barS] (by decide) (by decide)]; rfl

/-- What a device has after its cells' invariants are allocated. -/
def opened (c : Dev nD) : sProp 𝕄 :=
  iprop((bigSep Finset.univ fun p : Port => iprop(∃ κ : ℕ, cellInv ER (Rd m π) κ (pcell (c, p))))
    ∗ (positions c ∗ fetchSems c) ∗ (bigSep Finset.univ fun p : Port => reached ER (pcell (c, p)) 0) ∗ ownToks c)

theorem open_cells (c : Dev nD) :
    iprop((bigSep Finset.univ fun p : Port => semVal (pcell (c, p)) 0) ∗ bigSep Finset.univ fun p : Port => roundState ER (Rd m π) (pcell (c, p)) 0)
      ⊢ (|={Set.univ}=> bigSep Finset.univ fun p : Port => iprop(∃ κ : ℕ, cellInv ER (Rd m π) κ (pcell (c, p))) : sProp 𝕄) := by
  rw [← bigSep_sep']
  exact (bigSep_mono fun p _ => (Rounds.body_intro ER (Rd m π) (pcell (c, p))).trans inv_alloc).trans (bigSep_fupd _ _)

theorem core_open (c : Dev nD) :
    iprop(Pipeline.ownSems0 (Ix := Unit) (Name := ℕ) (U := UU) (Lvl := ℕ) (Val := Elt F) (τ := τ) osem c ∗ unscopedSems0 c ∗ share m π c)
      ⊢ |={Set.univ}=> opened m π c := by
  have e := Entails.of_eq (over_port (F := F) fun p => semVal (pcell (c, p)) 0).symm
  rw [ownSems0_eq, unscopedSems0_eq]
  unfold share opened
  iintro ⟨⟨Hf, Hs, Hr⟩, Hb, Hst, Hat, Hre, Ht⟩
  imod (open_cells m π c) $$ [Hs Hr Hb Hst] with Hinv
  · isplitl [Hs Hr Hb]
    · iapply e
      isplitl [Hb]; · iexact Hb
      isplitl [Hs]; · iexact Hs
      iexact Hr
    iexact Hst
  imodintro
  isplitl [Hinv]; · iexact Hinv
  isplitl [Hat Hf]; · isplitl [Hat] <;> iassumption
  isplitl [Hre]; · iexact Hre
  iexact Ht

/-! ## Dealing -/

/-- The tokens of the duties a device pays. -/
def dues (c : Dev nD) : sProp 𝕄 :=
  iprop(dutyTok ER (barCell (π c)) 0 false ∗ dutyTok ER (barCell (π.symm c)) 0 true
    ∗ (bigSep Finset.univ fun k => sTok (F := F) c k) ∗ bigSep Finset.univ fun k => rTok (F := F) (π c) k)

theorem deal : (bigSep Finset.univ fun c : Dev nD => (ownToks c : sProp 𝕄)) ⊢ bigSep Finset.univ fun c : Dev nD => dues π c := by
  have e : ∀ c : Dev nD, (ownToks c : sProp 𝕄) = iprop((dutyTok ER (barCell c) 0 false
      ∗ (bigSep Finset.univ fun k => sTok (F := F) c k) ∗ bigSep Finset.univ fun k => rTok (F := F) c k) ∗ dutyTok ER (barCell c) 0 true) :=
    fun c => by unfold ownToks; rw [over_port]
  unfold dues
  rw [bigSep_congr fun c _ => e c]
  simp only [bigSep_sep']
  rw [bigSep_univ_equiv π (fun c : Dev nD => (dutyTok ER (barCell c) 0 false : sProp 𝕄)),
    bigSep_univ_equiv π.symm (fun c : Dev nD => (dutyTok ER (barCell c) 0 true : sProp 𝕄)),
    bigSep_univ_equiv π (fun c : Dev nD => (bigSep Finset.univ fun k => rTok (F := F) c k : sProp 𝕄))]
  iintro ⟨⟨H1, H2, H3⟩, H4⟩
  isplitl [H1]; · iexact H1
  isplitl [H4]; · iexact H4
  isplitl [H2]; · iexact H2
  iexact H3

/-- A device's ghost state when its body starts. -/
def ghost (c : Dev nD) : sProp 𝕄 := iprop(∃ K, records m π K ∗ (positions c ∗ fetchSems c) ∗ dues π c)

theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem ghost_of (K : Dev nD × Port → ℕ) (c : Dev nD) : iprop(records m π K ∗ (positions c ∗ fetchSems c) ∗ dues π c) ⊢ ghost m π c := by
  unfold ghost; iintro H; iexists K; iexact H

theorem gather : (bigSep Finset.univ fun c : Dev nD => opened m π c) ⊢ bigSep Finset.univ (ghost m π) := by
  have e : (bigSep Finset.univ fun c : Dev nD => opened m π c)
      = iprop((bigSep Finset.univ fun cp : Dev nD × Port => iprop(∃ κ : ℕ, cellInv ER (Rd m π) κ (pcell cp)))
        ∗ (bigSep Finset.univ fun c : Dev nD => iprop(positions c ∗ fetchSems c))
        ∗ (bigSep Finset.univ fun cp : Dev nD × Port => reached ER (pcell cp) 0)
        ∗ bigSep Finset.univ fun c : Dev nD => (ownToks c : sProp 𝕄)) := by
    unfold opened
    simp only [bigSep_sep']
    rw [← bigSep_univ_prod (fun cp : Dev nD × Port => iprop(∃ κ : ℕ, cellInv ER (Rd m π) κ (pcell cp))),
      ← bigSep_univ_prod (fun cp : Dev nD × Port => (reached ER (pcell cp) 0 : sProp 𝕄))]
  have e' := Entails.of_eq (bigSep_sep' Finset.univ (fun c : Dev nD => (iprop(positions c ∗ fetchSems c) : sProp 𝕄)) (dues π)).symm
  rw [e]
  iintro ⟨HI, Hp, #HR, Ht⟩
  ihave HK := (BI.bigSep_exists_pi Finset.univ (fun (cp : Dev nD × Port) (κ : ℕ) => (cellInv ER (Rd m π) κ (pcell cp) : sProp 𝕄))) $$ HI
  icases HK with ⟨%K, #HI⟩
  ihave Hd := (deal (F := F) π) $$ Ht
  iapply (spread (R := records m π K) (ghost_of m π K))
  isplitr
  · unfold records
    isplitl; · iexact HI
    iexact HR
  · iapply e'
    isplitl [Hp]; · iexact Hp
    iexact Hd

theorem glob : (bigSep Finset.univ fun c => iprop(Pipeline.ownSems0 (Ix := Unit) (Name := ℕ) (U := UU) (Lvl := ℕ) (Val := Elt F) (τ := τ) osem c ∗ unscopedSems0 c ∗ share m π c) : sProp 𝕄)
    ⊢ |={Set.univ}=> bigSep Finset.univ (ghost m π) :=
  ((bigSep_mono fun c _ => core_open m π c).trans (bigSep_fupd _ _)).trans (BI.fupd_mono (gather m π))

/-! ## The credit of the launch -/

theorem Orem_at_bar (d c : Dev nD) : Orem π d 0 (barCell c) () = 0 := by
  by_contra h
  obtain ⟨k, e⟩ := Orem_pos π (Nat.pos_of_ne_zero h)
  exact dma_ne_bar _ (congrArg Prod.snd e).symm

theorem Orem_at_recv (d c : Dev nD) (k : Fin 8) : Orem π d 0 (recvCell c k) () = if d = π.symm c then N else 0 := by
  rw [Orem_apply, Finset.filter_true_of_mem fun _ _ => Nat.zero_le _]
  by_cases h : d = π.symm c
  · subst h
    rw [if_pos rfl, Finset.sum_eq_single k]
    · rw [if_pos ⟨by rw [Equiv.apply_symm_apply], rfl⟩]
    · intro k' _ hne
      exact if_neg fun h' => hne (rSem_inj _ _ (gcell_inj h'.1).2).symm
    · exact fun h => absurd (Finset.mem_univ _) h
  · rw [if_neg h]
    exact Finset.sum_eq_zero fun k' _ => if_neg fun h' => h (by rw [(gcell_inj h'.1).1, Equiv.symm_apply_apply])

theorem owed_bar (d c : Dev nD) : O₀ π d (barCell c) () = (if d = π c then 1 else 0) + (if d = π.symm c then 1 else 0) := by
  unfold O₀ O₁
  rw [Pi.add_apply, Finsupp.add_apply, Pi.add_apply, Finsupp.add_apply, Orem_at_bar, tallyAt_apply, tallyAt_apply, Nat.zero_add]
  congr 1
  · by_cases h : d = π c
    · subst h; rw [if_pos rfl, if_pos ⟨by rw [Equiv.symm_apply_apply], rfl⟩]
    · rw [if_neg h, if_neg fun h' => h (by rw [(gcell_inj h'.1).1, Equiv.apply_symm_apply])]
  · by_cases h : d = π.symm c
    · subst h; rw [if_pos rfl, if_pos ⟨by rw [Equiv.apply_symm_apply], rfl⟩]
    · rw [if_neg h, if_neg fun h' => h (by rw [(gcell_inj h'.1).1, Equiv.symm_apply_apply])]

theorem owed_recv (d c : Dev nD) (k : Fin 8) : O₀ π d (recvCell c k) () = if d = π.symm c then N else 0 := by
  unfold O₀ O₁
  rw [Pi.add_apply, Finsupp.add_apply, Pi.add_apply, Finsupp.add_apply, Orem_at_recv,
    tallyAt_ne_cell (fun h => dma_ne_bar _ (congrArg Prod.snd h)), tallyAt_ne_cell (fun h => dma_ne_bar _ (congrArg Prod.snd h)),
    Finsupp.zero_apply, Nat.add_zero, Nat.add_zero]

theorem credit_bar (c : Dev nD) :
    tallyOn (barCell c) (launchCredit (Pipeline.owing (O₀ π)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar π d c, Finset.sum_add_distrib,
    Finset.sum_ite_eq' Finset.univ (π c) fun _ => 1, Finset.sum_ite_eq' Finset.univ (π.symm c) fun _ => 1,
    if_pos (Finset.mem_univ _), if_pos (Finset.mem_univ _)]

theorem credit_recv (c : Dev nD) (k : Fin 8) :
    tallyOn (recvCell c k) (launchCredit (Pipeline.owing (O₀ π)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv π d c k,
    Finset.sum_ite_eq' Finset.univ (π.symm c) fun _ => N, if_pos (Finset.mem_univ _)]

theorem credits (c : Dev nD) : (Pipeline.launchCred (O₀ π) c : sProp 𝕄)
    ⊢ iprop(cred (tallyAt (barCell c) () 2) ∗ bigSep Finset.univ fun k => rCred (F := F) c k) := by
  have hinj : Function.Injective fun k : Fin 8 => (SemLoc.dma (rSem k) : SemLoc sig) := rSem_inj
  have hsub : Finset.univ.map ⟨_, hinj⟩ ⊆ Finset.univ.erase (SemLoc.reg barS : SemLoc sig) := fun s hs => by
    obtain ⟨k, -, rfl⟩ := Finset.mem_map.mp hs
    exact Finset.mem_erase.mpr ⟨dma_ne_bar _, Finset.mem_univ _⟩
  unfold Pipeline.launchCred
  rw [bigSep_univ_at _ (SemLoc.reg barS), credit_bar]
  refine sep_mono_right ((bigSep_subset hsub).trans ?_)
  rw [bigSep_map]
  exact bigSep_mono fun k _ => Entails.of_eq (congrArg cred (credit_recv π c k))

end Cert.RouteProof

end
-- ==== Proof.Launch.lean ====
/-
# The launch

What a device holds before and after its one grid point, and the run of the whole program: from any memory whose tables
name `π`, every execution ends with each device's result holding the block of the device `π` maps to it, both operands
as they were and every semaphore at zero.
-/
module

public import proofs.«01_k».proof.Proof.Ghost
public import Idealize.ShloMosaic.Lib.Pipeline.CollectiveSegs

@[expose] public section

noncomputable section

namespace Cert.RouteProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (π : Equiv.Perm (Dev nD))

variable (ρ : Dev nD → PrngReg)

/-! ## Whole buffers and their slabs -/

section Whole

variable {c : Thread nD τ} {sp : Space} {s : Shape} {e : EltTy} {n : ℕ}

/-- Every slab of a tiling owned at some contents is the buffer owned at some contents. -/
theorem slabs_some (mr : Memref sig c.2.kind sp s e) (r : Fin n → Rect s) (hr : ∀ t a, (r t).stride a = 1)
    (hd : ∀ t t', t ≠ t' → Disjoint (r t).set (r t').set) (hcov : (Finset.univ.biUnion fun t => (r t).set) = Finset.univ) :
    (bigSep Finset.univ fun t => iprop(∃ X, owns c (mr.slice (r t) (hr t)) fullShare X) : sProp 𝕄)
      ⊢ iprop(∃ X, owns c mr fullShare X) := by
  iintro H
  ihave H := (BI.bigSep_exists_pi Finset.univ (fun (t : Fin n) (X : (r t).shape.Idx → Elt F e) => (owns c (mr.slice (r t) (hr t)) fullShare X : sProp 𝕄))) $$ H
  icases H with ⟨%Y, H⟩
  have h := owns_of_rects (Ix := Unit) (Name := ℕ) (U := UU) (Lvl := ℕ) (Val := Elt F) c mr fullShare r hr hd hcov (Rect.glue r hcov Y)
  simp only [Rect.glue_emb r hcov hd Y] at h
  iexists (Rect.glue r hcov Y)
  iapply h $$ H

end Whole

theorem whole_some (c : Dev nD) (b : Ref sig .tc) :
    (iprop(∃ X : b.ty.Contents (Elt F), owns (c : Thread nD τ) (Memref.whole b) fullShare X) : sProp 𝕄)
      = iprop(∃ f : Buf (Elt F) ((c : Thread nD τ).loc b), ((c : Thread nD τ).loc b) ↦{fullShare} f) := by
  simp only [owns_whole]

/-- The two slots. -/
theorem slots_eq (c : Dev nD) : (bigSep Finset.univ fun j : Fin 2 => (fAny c j : sProp 𝕄)) = iprop(fAny c 0 ∗ fAny c 1) :=
  bigSep_univ_eq_bigSepL [0, 1] (by decide) (by decide) _

theorem slots_of (c : Dev nD) : (iprop(∃ f : Buf (Elt F) ((c : Thread nD τ).loc cc0_scratch0), ((c : Thread nD τ).loc cc0_scratch0) ↦{fullShare} f) : sProp 𝕄)
    ⊢ iprop(fAny c 0 ∗ fAny c 1) := by
  rw [← whole_some, ← slots_eq]; exact some_slabs (c := (c : Thread nD τ)) fA fR (fun _ _ => rfl) fR_disjoint fR_cover
theorem of_slots (c : Dev nD) : (iprop(fAny c 0 ∗ fAny c 1) : sProp 𝕄)
    ⊢ iprop(∃ f : Buf (Elt F) ((c : Thread nD τ).loc cc0_scratch0), ((c : Thread nD τ).loc cc0_scratch0) ↦{fullShare} f) := by
  rw [← whole_some, ← slots_eq]; exact slabs_some (c := (c : Thread nD τ)) fA fR (fun _ _ => rfl) fR_disjoint fR_cover

/-- The staging slabs. -/
theorem stages_of (c : Dev nD) : (iprop(∃ f : Buf (Elt F) ((c : Thread nD τ).loc cc0_scratch1), ((c : Thread nD τ).loc cc0_scratch1) ↦{fullShare} f) : sProp 𝕄)
    ⊢ From 0 (bAny (F := F) c) := by
  rw [← whole_some, from_zero]; exact some_slabs (c := (c : Thread nD τ)) bA bR (fun _ _ => rfl) bR_disjoint bR_cover
theorem of_stages (c : Dev nD) : (Upto 8 (bAny (F := F) c) : sProp 𝕄)
    ⊢ iprop(∃ f : Buf (Elt F) ((c : Thread nD τ).loc cc0_scratch1), ((c : Thread nD τ).loc cc0_scratch1) ↦{fullShare} f) := by
  rw [← whole_some, upto_last]; exact slabs_some (c := (c : Thread nD τ)) bA bR (fun _ _ => rfl) bR_disjoint bR_cover

/-- The operand and the result. -/
theorem operand_of (c : Dev nD) : ((((c : Thread nD τ).loc main_arg0) ↦{fullShare} xin m c) : sProp 𝕄) ⊢ From 0 (xOwn m c) := by
  rw [from_zero]
  exact (Entails.of_eq (owns_whole (c : Thread nD τ) main_arg0 fullShare _).symm).trans
    (owns_rects (c : Thread nD τ) xA fullShare xR (fun _ _ => rfl) xR_disjoint xR_cover _)
theorem of_operand (c : Dev nD) : (Upto 8 (xOwn m c) : sProp 𝕄) ⊢ (((c : Thread nD τ).loc main_arg0) ↦{fullShare} xin m c) := by
  rw [upto_last]
  exact (owns_of_rects (c : Thread nD τ) xA fullShare xR (fun _ _ => rfl) xR_disjoint xR_cover (xin m c)).trans
    (Entails.of_eq (owns_whole (c : Thread nD τ) main_arg0 fullShare _))
theorem result_of (c : Dev nD) (f : Buf (Elt F) ((c : Thread nD τ).loc main_v1)) :
    ((((c : Thread nD τ).loc main_v1) ↦{fullShare} f) : sProp 𝕄) ⊢ outSlabs c :=
  (Entails.of_eq (owns_whole (c : Thread nD τ) main_v1 fullShare _).symm).trans
    ((owns_some (c := (c : Thread nD τ)) oA f).trans (some_slabs (c := (c : Thread nD τ)) oA xR (fun _ _ => rfl) xR_disjoint xR_cover))
theorem of_result (c : Dev nD) : (Upto 8 (recvPay m π c) : sProp 𝕄)
    ⊢ (((c : Thread nD τ).loc main_v1) ↦{fullShare} (xin m (π.symm c) : Buf (Elt F) ((c : Thread nD τ).loc main_v1))) := by
  rw [upto_last]
  exact (owns_of_rects (c : Thread nD τ) oA fullShare xR (fun _ _ => rfl) xR_disjoint xR_cover (xin m (π.symm c))).trans
    (Entails.of_eq (owns_whole (c : Thread nD τ) main_v1 fullShare _))

/-! ## The pipeline's proof data -/

abbrev s₀ : MemSt nD τ sig (Elt F) := ⟨m, fun _ => 0, ρ⟩

/-- Device `c`'s table, and the same as staged. -/
abbrev tbl (c : Dev nD) : Table := m ((c : Thread nD τ).loc main_arg1)
def tstg (c : Dev nD) : (cc0_stg0_0 : Ref sig .tc).ty.Contents (Elt F) :=
  (win0_0.blk (0 : Fin 1)).view.read (Elt F) ((s₀ m ρ).mem ((c : Thread nD τ).loc main_arg1))
theorem tstg_eq (c : Dev nD) : tstg m ρ c = tbl m c := by
  funext i
  show m ((c : Thread nD τ).loc main_arg1) _ = m ((c : Thread nD τ).loc main_arg1) i
  refine congrArg _ (funext fun a => Fin.ext ?_)
  fin_cases a
  show 0 + 1 * (i 0).val = (i 0).val
  omega

/-- A device's start: its ghost state, the launch's credit, the levels, its operand and its result. -/
def start (c : Dev nD) : sProp 𝕄 :=
  iprop(ghost m π c ∗ (cred (tallyAt (barCell c) () 2) ∗ bigSep Finset.univ fun k => rCred (F := F) c k) ∗ levAts L lv ∗ From 0 (xOwn m c) ∗ outSlabs c)

def Φ₀ (c : Dev nD) : sProp 𝕄 := iprop(start m π c ∗ (fAny c 0 ∗ fAny c 1) ∗ From 0 (bAny (F := F) c))
def Φ₁ (c : Dev nD) : sProp 𝕄 :=
  iprop((semVal (fetchCell c 0) 0 ∗ semVal (fetchCell c 1) 0 ∗ semVal (barCell c) 0) ∗ (fAny c 0 ∗ fAny c 1)
    ∗ Upto 8 (xOwn m c) ∗ Upto 8 (bAny (F := F) c) ∗ Upto 8 (sDone (F := F) c) ∗ Upto 8 (recvPay m π c) ∗ Upto 8 (rDone (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
  Φ t := match t with
    | ⟨0, _⟩ => Φ₀ m π c
    | ⟨_ + 1, _⟩ => Φ₁ m π c
  q _ := fullShare
  owed t := match t with
    | ⟨0, _⟩ => O₀ π c
    | ⟨_ + 1, _⟩ => 0

theorem over_windows (Φ : Fin cfg0.W → sProp 𝕄) : bigSep Finset.univ Φ = Φ (0 : Fin 1) := bigSep_W0 Φ

/-- The obligation's two sides: the device's resources, what it owes, the staged table. -/
def bodyStart (c : Dev nD) : sProp 𝕄 :=
  iprop(Φ₀ m π c ∗ (dats m π ρ 0 c).owesAt () t0_0.castSucc
    ∗ ∃ d, (((c : Thread nD τ).loc cc0_stg0_0) ↦{fullShare} ((dats m π ρ 0 c).before (0 : Fin 1) t0_0 d : Buf (Elt F) ((c : Thread nD τ).loc cc0_stg0_0))))
def bodyEnd (c : Dev nD) : sProp 𝕄 :=
  iprop(Φ₁ m π c ∗ (dats m π ρ 0 c).owesAt () t0_0.succ
    ∗ (((c : Thread nD τ).loc cc0_stg0_0) ↦{fullShare} (tstg m ρ c : Buf (Elt F) ((c : Thread nD τ).loc cc0_stg0_0))))

theorem before_eq (c : Dev nD) (d : (cfg0.win (0 : Fin 1)).block.Idx → Elt F (cfg0.win (0 : Fin 1)).elt) :
    (dats m π ρ 0 c).before (0 : Fin 1) t0_0 d = tstg m ρ c := by
  unfold Dat.before; rw [if_pos (show (cfg0.win (0 : Fin 1)).fetch t0_0 = true from rfl)]; rfl

theorem owing_start (c : Dev nD) : ((dats m π ρ 0 c).owesAt () t0_0.castSucc : sProp 𝕄) ⊢ owing c (O₀ π c) := by
  unfold Dat.owesAt Pipeline.owesWithin
  rw [show (dats m π ρ 0 c).owed t0_0.castSucc = O₀ π c from rfl]
  iintro ⟨%W, -, H⟩
  iexists W; iexact H

theorem owing_end (c : Dev nD) : (owing c 0 : sProp 𝕄) ⊢ (dats m π ρ 0 c).owesAt () t0_0.succ := by
  unfold Dat.owesAt Pipeline.owesWithin
  rw [show (dats m π ρ 0 c).owed t0_0.succ = 0 from rfl]
  iintro ⟨%W, H⟩
  iexists W
  isplitr; · ipureintro; exact fun _ _ => Or.inl trivial
  iexact H

theorem body_at_start (K : Dev nD × Port → ℕ) (c : Dev nD) (tb : Table) :
    iprop((positions c ∗ fetchSems c) ∗ dues π c ∗ (cred (tallyAt (barCell c) () 2) ∗ bigSep Finset.univ fun k => rCred (F := F) c k)
      ∗ From 0 (xOwn m c) ∗ outSlabs c ∗ (fAny c 0 ∗ fAny c 1) ∗ From 0 (bAny (F := F) c) ∗ owing c (O₀ π c)
      ∗ (((c : Thread nD τ).loc cc0_stg0_0) ↦{fullShare} (tb : Buf (Elt F) ((c : Thread nD τ).loc cc0_stg0_0)))) ⊢ bodyPre m π c tb := by
  unfold bodyPre positions fetchSems dues
  rw [over_port, from_zero (rCred (F := F) c), from_zero (sAt (F := F) c), from_zero (rAt (F := F) c), from_zero (sTok (F := F) c),
    from_zero (rTok (F := F) (π c))]
  iintro ⟨⟨Hp, Hf⟩, Hd, Hc, Hx, Ho, Hs, Hb, HO, Ht⟩
  isplitl [Ht]; · iexact Ht
  isplitl [HO]; · iexact HO
  isplitl [Hd]; · iexact Hd
  isplitl [Hc]; · iexact Hc
  isplitl [Hp]; · iexact Hp
  isplitl [Hf]; · iexact Hf
  isplitl [Hx]; · iexact Hx
  isplitl [Ho]; · iexact Ho
  isplitl [Hs]; · iexact Hs
  iexact Hb

theorem body_at_end (c : Dev nD) : bodyPost m π c (tstg m ρ c) ⊢ bodyEnd m π ρ c := by
  unfold bodyPost bodyEnd Φ₁ received
  iintro ⟨Ht, Hv, Hf, Hx, Hb, Hs, ⟨-, -, Hr, Hd, HO⟩⟩
  isplitr [HO Ht]
  · isplitl [Hv]; · iexact Hv
    isplitl [Hf]; · iexact Hf
    isplitl [Hx]; · iexact Hx
    isplitl [Hb]; · iexact Hb
    isplitl [Hs]; · iexact Hs
    isplitl [Hr]; · iexact Hr
    iexact Hd
  isplitl [HO]; · iapply (owing_end m π ρ c) $$ HO
  iexact Ht

variable (hroute : ∀ c, Routed (F := F) π c (tbl m c))

include hroute

theorem body_run (c : Dev nD) : bodyStart m π ρ c ⊢ run c (cc0_body (F := F) (Memref.whole main_arg0) (Memref.isWhole_whole _) (Memref.whole cc0_stg0_0) (Memref.isWhole_whole _)
          (Memref.whole main_v1) (Memref.isWhole_whole _) (Memref.whole cc0_scratch0) (Memref.isWhole_whole _)
          (Memref.whole cc0_scratch1) (Memref.isWhole_whole _) cc0_scratch2 cc0_scratch3 cc0_scratch4) fun _ => bodyEnd m π ρ c := by
  have hr : Routed (F := F) π c (tstg m ρ c) := by rw [tstg_eq]; exact hroute c
  unfold bodyStart Φ₀ start ghost
  iintro ⟨⟨⟨⟨%K, #HR, Hg, Hd⟩, Hc, #Hl, Hx, Ho⟩, Hs, Hb⟩, HO, %d, Ht⟩
  rw [before_eq]
  ihave HO := (owing_start m π ρ c) $$ HO
  iapply (sound_body m π K c (tstg m ρ c) hr fun _ => bodyEnd m π ρ c)
  isplitr; · iexact HR
  isplitr; · iexact Hl
  isplitl [Hg Hc Hd Hx Ho Hs Hb HO Ht]
  · iapply (body_at_start m π K c (tstg m ρ c))
    isplitl [Hg]; · iexact Hg
    isplitl [Hd]; · iexact Hd
    isplitl [Hc]; · iexact Hc
    isplitl [Hx]; · iexact Hx
    isplitl [Ho]; · iexact Ho
    isplitl [Hs]; · iexact Hs
    isplitl [Hb]; · iexact Hb
    isplitl [HO]; · iexact HO
    iexact Ht
  · iintro H
    iapply (body_at_end m π ρ c) $$ H

theorem body_obligation (c : Dev nD) : BodyObligation (dats m π ρ 0 c) (defs₀ (F := F)) 𝒱₀ () Set.univ := fun t => by
  rw [show t = t0_0 from fin_N0 t, over_windows, over_windows]
  simp only [owns_whole]
  exact body_run m π ρ hroute c

omit hroute

/-! ## The side conditions -/

theorem ownSemFacts : Pipeline.OwnSemFacts cfg0.spec osem := by decide

theorem share_eq (c : Dev nD) (w : Fin cfg0.W) : (dats m π ρ 0 c).share w = fullShare := by unfold Dat.share; split <;> rfl

theorem start_of (c : Dev nD) :
    iprop(Pipeline.unscopedRestP Pipeline.Prefetch.none cfg0.spec c (fun b => m ((c : Thread nD τ).loc b)) ∗ levAts L lv
        ∗ Pipeline.launchCred (O₀ π) c ∗ prngReg c (ρ c) ∗ ghost m π c)
      ⊢ |={Set.univ}=> iprop(start m π c ∗ emp) := by
  have e := Entails.of_eq (unscopedRest0_eq (Ix := Unit) (Val := Elt F) (Name := ℕ) (U := UU) (Lvl := ℕ) c (fun b => m ((c : Thread nD τ).loc b)))
  rw [Pipeline.unscopedRestP_none]
  unfold start
  iintro ⟨Hb, Hl, Hc, -, HG⟩
  icases e $$ Hb with ⟨Hx, Ho⟩
  ihave Hc := (credits (F := F) π c) $$ Hc
  ihave Hx := (operand_of m c) $$ Hx
  ihave Ho := (result_of (F := F) c _) $$ Ho
  imodintro
  isplitl
  · isplitl [HG]; · iexact HG
    isplitl [Hc]; · iexact Hc
    isplitl [Hl]; · iexact Hl
    isplitl [Hx]; · iexact Hx
    iexact Ho
  · iempintro

theorem enter (c : Dev nD) :
    iprop(start m π c ∗ Pipeline.prefHeld Pipeline.Prefetch.none c (fun _ => fullShare.right) (fun k => k.elim0) ∗ Pipeline.scopedRest cfg0.spec c)
      ⊢ (dats m π ρ 0 c).Φ 0 := by
  rw [show (dats m π ρ 0 c).Φ 0 = Φ₀ m π c from rfl, scopedRest0_eq]
  unfold Φ₀
  iintro ⟨Hs, -, Hf, Hb⟩
  isplitl [Hs]; · iexact Hs
  isplitl [Hf]; · iapply (slots_of (F := F) c) $$ Hf
  iapply (stages_of (F := F) c) $$ Hb

/-- What the run leaves of device `c`'s buffers and of its barrier. -/
def kept (c : Dev nD) : sProp 𝕄 :=
  iprop(unscopedSems0 c ∗ (((c : Thread nD τ).loc main_arg0) ↦{fullShare} xin m c)
    ∗ (((c : Thread nD τ).loc main_v1) ↦{fullShare} (xin m (π.symm c) : Buf (Elt F) ((c : Thread nD τ).loc main_v1))))

theorem leave (c : Dev nD) :
    (dats m π ρ 0 c).Φ (Fin.last cfg0.N) ⊢ iprop(kept m π c ∗ Pipeline.ownSems0 osem c ∗ Pipeline.scopedRest cfg0.spec c) := by
  rw [show (dats m π ρ 0 c).Φ (Fin.last cfg0.N) = Φ₁ m π c from rfl, scopedRest0_eq, ownSems0_eq]
  unfold Φ₁ kept fetchSems
  rw [unscopedSems0_eq, upto_last (sDone (F := F) c), upto_last (rDone (F := F) c)]
  iintro ⟨⟨Hv0, Hv1, Hvb⟩, Hf, Hx, Hb, Hs, Hp, Hr⟩
  isplitl [Hvb Hx Hp]
  · isplitl [Hvb]; · iexact Hvb
    isplitl [Hx]; · iapply (of_operand m c) $$ Hx
    iapply (of_result m π c) $$ Hp
  isplitl [Hv0 Hv1 Hs Hr]
  · isplitl [Hv0 Hv1]; · isplitl [Hv0] <;> iassumption
    isplitl [Hs] <;> iassumption
  isplitl [Hf]; · iapply (of_slots (F := F) c) $$ Hf
  iapply (of_stages (F := F) c) $$ Hb

theorem waits (c : Dev nD) : (levAts L lv : sProp 𝕄) ⊢ Pipeline.cellsWaits cfgs (dats m π ρ) () 0 c :=
  Pipeline.cellsWaits_intro cfgs (dats m π ρ) () 0 c fun w s t =>
    mayWait_stage π c _ (by fin_cases w <;> fin_cases s <;> decide) _ (by
      rcases t with ⟨_ | _, ht⟩
      · exact Or.inl rfl
      · exact Or.inr rfl)

/-- What the memory then says of device `c`. -/
def Kept (c : Dev nD) (s : MemSt nD τ sig (Elt F)) : Prop :=
  (∀ sm : SemLoc sig, sm.isScoped .tc = false → s.sem ((c : Thread nD τ), sm) = 0)
    ∧ s.mem ((c : Thread nD τ).loc main_arg0) = xin m c ∧ s.mem ((c : Thread nD τ).loc main_v1) = xin m (π.symm c)

theorem read_kept (c : Dev nD) (s' : Phys nD τ sig (Elt F)) :
    iprop(kept m π c ∗ emp ∗ SI s') ⊢ |={Set.univ}=> iprop(⌜Kept m π c s'.mem⌝ ∗ SI s') := by
  unfold kept
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨hs, Buf.eq_of_forall_mem_univ hx, Buf.eq_of_forall_mem_univ ho⟩
  iexact HSI

/-! ## The run -/

def u₀ : UU :=
  (initOf (Pipeline.cells cfgs cellOf_inj) (Pipeline.launchToks cfgs cellOf_inj), (initOf minted mintedToks, (1 : Counters)))

/-- The end of a run on every device. -/
def Routes (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = xin m (π.symm c)) ∧ s.sem = fun _ => 0

theorem fund_all : (ownU (u₀) : sProp 𝕄)
    ⊢ |={Set.univ}=> iprop(BI.own (EP (initOf (Pipeline.cells cfgs cellOf_inj) (Pipeline.launchToks cfgs cellOf_inj))) ∗ bigSep Finset.univ (share m π)) := by
  unfold u₀
  iintro Hu
  ihave H := (ownU_pair _ _) $$ Hu
  icases H with ⟨HP, HX⟩
  ihave HX := (own_pair_emb embR _ _) $$ HX
  icases HX with ⟨HX, -⟩
  imod (fund m π) $$ HX with HG
  imodintro
  isplitl [HP] <;> iassumption

set_option maxRecDepth 8000 in
theorem run_main (hroute : ∀ c, Routed (F := F) π c (tbl m c)) :
    θ_run defs (onTc (τ := τ) (main (F := F))) (s₀ m ρ) (fun r => Routes m π r.2) :=
  Pipeline.θ_run_region_owing_glob_pf (fun p => (cfgs p).toPCfg) (fun p => (cfgs p).toPCfg_adm) (dats m π ρ) () cellOf_inj (0 : Fin 1)
    winFacts0.to₀ ownSemFacts (Pipeline.PreFacts.none _) EP defs₀ 𝒱₀ m ρ main
    (hmain := fun _ => rfl)
    (hbody := body_obligation m π ρ hroute) (hne := block_pos0) (harr := arr_whole0) (hstage := stage_whole0) (hshare := share_eq m π ρ)
    (hdistinct := winFacts0.arr_inj)
    (O₀ := O₀ π) (howed₀ := fun _ => rfl) (howedN := fun _ => rfl)
    (L := L) (lv := lv) (hL := L_of_ne) (hwaits := waits m π ρ)
    (G := share m π) (G' := ghost m π) (u₀ := u₀) (hu₀ := fund_all m π) (hglob := glob m π)
    (hA := fun _ _ => rfl) (hpf := fun _ k => k.elim0)
    (X := start m π) (Y := kept m π) (Z := fun _ => iprop(emp))
    (hX := start_of m π ρ) (hin := enter m π ρ) (hout := leave m π ρ)
    (QY := Kept m π) (hY := read_kept m π)
    (hQ := fun s h hs => ⟨fun c => ⟨(h c).2.2.2.1, ((h c).1 (0 : Fin 1)).trans ((dats m π ρ 0 c).arrAt_in (0 : Fin 1) rfl _), (h c).2.2.2.2⟩,
      sem_eq_zero hs fun c => (h c).2.2.1⟩)

end Cert.RouteProof

end
-- ==== Proof.Routing.lean ====
/-
# The table routes the devices

The mesh is two by two by four, the last axis running fastest, so device `c` stands at `c % 4` on it. A table that
lists a permutation of the four places sends each device to the one beside it on that axis at the place listed for it.
-/
module

public import proofs.«01_k».proof.Proof.Launch
public import Idealize.ShloMosaic.Lib.ValueIdxCore

@[expose] public section

noncomputable section

namespace Cert.RouteProof

open Cert.KernelIdeal Cert.KernelIdeal.Gen

open Idealize.ShloMosaic
open Idealize.ShloMosaic.TcCoe

variable {F : FTy → Type} [FloatOps F]

/-- A device's place on the last mesh axis. -/
def place (c : Dev nD) : Fin 4 := ⟨c.val % 4, Nat.mod_lt _ (by decide)⟩

/-- The device at place `k` on the last axis beside `c`. -/
def beside (c : Dev nD) (k : Fin 4) : Dev nD := ⟨4 * (c.val / 4) + k.val, by
  have := c.isLt; have := k.isLt; change c.val < 16 at *; show _ < 16; omega⟩

theorem place_beside (c : Dev nD) (k : Fin 4) : place (beside c k) = k :=
  Fin.ext (by have := k.isLt; show (4 * (c.val / 4) + k.val) % 4 = k.val; omega)

theorem beside_beside (c : Dev nD) (j k : Fin 4) : beside (beside c j) k = beside c k :=
  Fin.ext (by have := j.isLt; show 4 * ((4 * (c.val / 4) + j.val) / 4) + k.val = 4 * (c.val / 4) + k.val; omega)

theorem beside_place (c : Dev nD) : beside c (place c) = c :=
  Fin.ext (by show 4 * (c.val / 4) + c.val % 4 = c.val; omega)

/-- Every device sent along the last axis by a permutation of its four places. -/
def route (σ : Equiv.Perm (Fin 4)) : Equiv.Perm (Dev nD) where
  toFun c := beside c (σ (place c))
  invFun c := beside c (σ.symm (place c))
  left_inv c := by
    show beside (beside c (σ (place c))) (σ.symm (place (beside c (σ (place c))))) = c
    rw [place_beside, Equiv.symm_apply_apply, beside_beside, beside_place]
  right_inv c := by
    show beside (beside c (σ.symm (place c))) (σ (place (beside c (σ.symm (place c))))) = c
    rw [place_beside, Equiv.apply_symm_apply, beside_beside, beside_place]

/-- The table that lists a permutation. -/
def names (σ : Equiv.Perm (Fin 4)) : Table := fun i => BitVec.ofNat 32 (σ (i 0)).val

/-! ## The kernel's device numbers -/

theorem dev1_eq : ∀ (c : Dev nD) (k : Fin 4), k0_dev1 c (BitVec.ofNat 32 k.val) = 4 * (c.val / 4) + k.val := by
  decide +kernel

/-- The search for a device's own place in the table ends where the table lists it. -/
theorem dev2_eq : ∀ (a b d e : Fin 4), (a ≠ b ∧ a ≠ d ∧ a ≠ e ∧ b ≠ d ∧ b ≠ e ∧ d ≠ e) → ∀ (p : Fin 4) (c : Dev nD),
    (![a, b, d, e] p).val = c.val % 4 →
    k0_dev2 c (BitVec.ofNat 32 a.val) (BitVec.ofNat 32 b.val) (BitVec.ofNat 32 d.val) = 4 * (c.val / 4) + p.val := by
  decide +kernel

/-! ## The words it reads -/

theorem wordAt_names (σ : Equiv.Perm (Fin 4)) (o : Fin 1 → ℕ) (ho : ∀ a, o a + S1.size a ≤ S4.size a) (k : Fin 4) (hk : o 0 = k.val) :
    wordAt (F := F) (names σ) o ho = BitVec.ofNat 32 (σ k).val := by
  show BitVec.ofNat 32 (σ _).val = _
  congr 3
  refine Fin.ext ?_
  show _ = k.val
  rw [← hk]
  rfl

theorem routed (σ : Equiv.Perm (Fin 4)) (c : Dev nD) : Routed (F := F) (route σ) c (names σ) where
  own := by
    rw [show wordOwn (F := F) c (names σ) = BitVec.ofNat 32 (σ (place c)).val from
      wordAt_names σ _ _ (place c) (by rw [k0_off1_eq]; rfl)]
    exact dev1_eq c _
  back := by
    rw [show word0 (F := F) (names σ) = BitVec.ofNat 32 (σ 0).val from wordAt_names σ _ _ 0 rfl,
      show word1 (F := F) (names σ) = BitVec.ofNat 32 (σ 1).val from wordAt_names σ _ _ 1 rfl,
      show word2 (F := F) (names σ) = BitVec.ofNat 32 (σ 2).val from wordAt_names σ _ _ 2 rfl]
    have hne : ∀ {i j : Fin 4}, i ≠ j → σ i ≠ σ j := fun h e => h (σ.injective e)
    refine dev2_eq _ _ _ (σ 3) ⟨hne (by decide), hne (by decide), hne (by decide), hne (by decide), hne (by decide), hne (by decide)⟩
      (σ.symm (place c)) c ?_
    rw [show (![σ 0, σ 1, σ 2, σ 3] : Fin 4 → Fin 4) = σ from by funext i; fin_cases i <;> rfl, Equiv.apply_symm_apply]
    rfl

/-! ## What a precondition says of the table -/

/-- A permutation of the four places and its inverse, written out. -/
abbrev listed (f g : Fin 4 → Fin 4) (h : (∀ i, g (f i) = i) ∧ ∀ i, f (g i) = i := by decide) : Equiv.Perm (Fin 4) := ⟨f, g, h.1, h.2⟩

/-- One word of the compared table, as the precondition builds it. -/
abbrev entry (hb : (⟨0, ![]⟩ : Shape).BroadcastsInDim ⟨1, ![1]⟩ (![] : Fin 0 → Fin 1)) (k : BitVec 32) : IVec ⟨1, ![1]⟩ 32 :=
  broadcastInDim (s := ⟨0, ![]⟩) ⟨1, ![1]⟩ ![] hb (constantI ⟨0, ![]⟩ 32 k)

theorem eq_of_ones {s : Shape} {x y : IVec s 32} (h : cmpi .eq x y = fun _ => 1#1) : x = y := by
  funext i
  have hi : IntOp.cmpi .eq (x i) (y i) = 1#1 := congrFun h i
  by_contra hne
  rw [show IntOp.cmpi .eq (x i) (y i) = 0#1 from by
    show BitVec.ofBool (x i == y i) = 0#1
    rw [beq_false_of_ne hne]; rfl] at hi
  exact absurd hi (by decide)

/-- The comparison holding everywhere, the table is the permutation's. -/
theorem names_of_ones (σ : Equiv.Perm (Fin 4)) {tb : Table}
    (hb : (⟨0, ![]⟩ : Shape).BroadcastsInDim ⟨1, ![1]⟩ (![] : Fin 0 → Fin 1))
    (hc : Shape.Concatenates [⟨1, ![1]⟩, ⟨1, ![1]⟩, ⟨1, ![1]⟩, ⟨1, ![1]⟩] S4 0)
    (h : cmpi .eq tb (concatenate S4 0 [⟨⟨1, ![1]⟩, entry hb (BitVec.ofNat 32 (σ 0).val)⟩, ⟨⟨1, ![1]⟩, entry hb (BitVec.ofNat 32 (σ 1).val)⟩,
      ⟨⟨1, ![1]⟩, entry hb (BitVec.ofNat 32 (σ 2).val)⟩, ⟨⟨1, ![1]⟩, entry hb (BitVec.ofNat 32 (σ 3).val)⟩] hc) = fun _ => 1#1) :
    tb = names σ := by
  refine (eq_of_ones h).trans (funext fun i => ?_)
  rw [ValueIdx.eq_ix1 i]
  generalize i 0 = k
  fin_cases k <;> rfl

end Cert.RouteProof

end
-- ==== Proof.Reference.lean ====
/-
# The reference's run and its value

The reference is a straight line of host operations on one device: it sorts the table with its positions, and takes the
whole array's blocks in the order of the positions so sorted. Of a table that lists a permutation these are the
inverse's places, so block `k` of the result is the block the inverse sends `k` to.
-/
module

public import proofs.«01_k».proof.Proof.Routing
public import proofs.«01_k».proof.Proof.Gen.ReferenceIdeal
public import Idealize.ShloMosaic.Lib.StableHlo.Run

@[expose] public section

noncomputable section

namespace Cert.RouteProof.Ref

open Cert.ReferenceIdeal Cert.ReferenceIdeal.Gen
open Idealize.ShloMosaic Idealize.ShloMosaic.TcCoe Idealize.ShloMosaic.StableHlo Idealize.SL.Sem
open Idealize.ShloMosaic.ValueIdx (ix1 ix3 eq_ix1 eq_ix3)

variable {F : FTy → Type} [FloatOps F]

/-! ## The run -/

/-- The positions in the order that sorts the table. -/
abbrev sorted (pi : IVec S4 32) : IVec S4 32 := (Host.sort2 S4 0 comparator_i32_i32_d0 pi (iotaInDim S4 32 0)).2

/-- A table, with four added to each word below zero, as start indices. -/
abbrev indices (w : IVec S4 32) : IVec S4x1 32 :=
  broadcastInDim S4x1 ![0] bcast_S4_S4x1_0 (select (cmpi .slt w (broadcastInDim S4 ![] bcast_S_S4 (constantI S_ 32 0#32)))
    (addi w (broadcastInDim S4 ![] bcast_S_S4 (constantI S_ 32 4#32))) w)

/-- The start indices the sort gives. -/
abbrev starts (pi : IVec S4 32) : IVec S4x1 32 := indices (sorted pi)

/-- The blocks taken from them. -/
abbrev taken (x : FVec F S4x4096x2048 .bf16) (pi : IVec S4 32) : FVec F S4x4096x2048 .bf16 :=
  Host.gather gather_S4x4096x2048_S4x1_S4x4096x2048_12_0_n_n_0_1_140962048 x (starts pi)

/-- The result of the reference from its arguments. -/
abbrev result (x : FVec F S4x4096x2048 .bf16) (pi : IVec S4 32) : FVec F S4x4096x2048 .bf16 :=
  truncf .bf16 (extf .f32 (taken x pi) bitsLt_bf16_f32) bitsLt_bf16_f32

/-- The operations in order. -/
abbrev ops : List (HloOp τ sig (Elt F)) :=
  [ nullary main_call0_v0 (iotaInDim S4 32 0),
    binary main_arg1 main_call0_v0 main_call0_v1_0 (fun x y => (Host.sort2 S4 0 comparator_i32_i32_d0 x y).1),
    binary main_arg1 main_call0_v0 main_v0 (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7 (fun x i => Host.gather gather_S4x4096x2048_S4x1_S4x4096x2048_12_0_n_n_0_1_140962048 x i),
    unary main_v7 main_v8 (extf .f32 · bitsLt_bf16_f32),
    unary main_v8 main_v9 (truncf .bf16 · bitsLt_bf16_f32) ]

theorem main_eq (c : Dev nD) : main (F := F) c = seq ops := rfl

theorem out_eq (V : Valuation τ sig (Elt F)) :
    after ops V (main_v9 : DevRef τ sig) = result (V (main_arg0 : DevRef τ sig)) (V (main_arg1 : DevRef τ sig)) := by
  after_results

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub ..⟩

/-- Every fair run ends with the result computed and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v9)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v9).trans (out_eq _), (h c main_arg0).trans (arg0_eq _), (h c main_arg1).trans (arg1_eq _)⟩)
    (run_seq no_scoped_refs no_scoped_sems defs main (fun _ => ops) main_eq (fun _ => ops_sub) m ρ)

/-! ## The value -/

/-- Sorting a permutation's table with the positions leaves the inverse's table. -/
theorem sorted_names : ∀ (σ : Equiv.Perm (Fin 4)) (k : Fin 4), sorted (names σ) (ix1 k) = BitVec.ofNat 32 (σ.symm k).val := by
  decide +kernel

/-- A place is not below zero, so four is not added to it. -/
theorem not_wrapped : ∀ k : Fin 4, Scalar.select (IntOp.cmpi .slt (BitVec.ofNat 32 k.val) 0#32) (IntOp.addi (BitVec.ofNat 32 k.val) 4#32)
    (BitVec.ofNat 32 k.val) = BitVec.ofNat 32 k.val := by decide

theorem indices_apply (w : IVec S4 32) (j : S4x1.Idx) : indices w j
    = Scalar.select (IntOp.cmpi .slt (w (ix1 (n := 4) (j 0))) 0#32) (IntOp.addi (w (ix1 (n := 4) (j 0))) 4#32) (w (ix1 (n := 4) (j 0))) := by
  unfold indices broadcastInDim
  rw [eq_ix1 (n := 4) (fun a => if h : S4.size a = 1 then _ else _)]
  rfl

/-- The start index of block `k` of the result. -/
theorem starts_names (σ : Equiv.Perm (Fin 4)) (j : S4x1.Idx) : starts (names σ) j = BitVec.ofNat 32 (σ.symm (j 0)).val := by
  refine (indices_apply _ _).trans ?_
  rw [sorted_names σ (j 0)]
  exact not_wrapped _

/-- A place, read signed and clamped into the four. -/
theorem clamped : ∀ k : Fin 4, min (BitVec.ofNat 32 k.val).toInt.toNat 3 = k.val := by decide

/-- The element the gather reads, whatever the start indices. -/
theorem read_at (w : IVec S4x1 32) (j : S4x4096x2048.Idx) (k : Fin 4)
    (hk : min (w (ValueIdx.ix2 (n0 := 4) (n1 := 1) (j 0) 0)).toInt.toNat 3 = k.val) :
    gather_S4x4096x2048_S4x1_S4x4096x2048_12_0_n_n_0_1_140962048.operandIdx j w = ix3 k (j 1) (j 2) := by
  funext a
  refine Fin.ext ?_
  match a with
  | ⟨0, _⟩ =>
    refine Eq.trans ?_ hk
    show GatherDims.start _ j w 0 + GatherDims.batchCoord _ j 0 + GatherDims.offCoord _ j 0 = _
    rw [GatherDims.batchCoord_eq_zero _ _ _ (by decide), GatherDims.offCoord_eq_zero _ _ _ (by decide), GatherDims.start, dif_pos (by decide)]
    refine congrArg (fun i => min (w i).toInt.toNat 3) (funext fun b => Fin.ext ?_)
    match b with
    | ⟨0, _⟩ => rfl
    | ⟨1, _⟩ => rfl
  | ⟨1, _⟩ => exact Nat.zero_add _
  | ⟨2, _⟩ => exact Nat.zero_add _

theorem taken_apply (x : FVec F S4x4096x2048 .bf16) (σ : Equiv.Perm (Fin 4)) (j : S4x4096x2048.Idx) :
    taken x (names σ) j = x (ix3 (σ.symm (j 0)) (j 1) (j 2)) :=
  congrArg x (read_at _ j _ (by rw [starts_names]; exact clamped _))

theorem result_apply (x : FVec Ideal S4x4096x2048 .bf16) (σ : Equiv.Perm (Fin 4)) (j : S4x4096x2048.Idx) :
    result x (names σ) j = x (ix3 (σ.symm (j 0)) (j 1) (j 2)) := by
  show taken x (names σ) j = _
  exact taken_apply x σ j

end Cert.RouteProof.Ref

end
-- ==== Proof.Claims.lean ====
/-
# The claims, for any one permutation

The kernel's frames and its value, and the reference's frame, under the hypothesis that every device's table lists one
and the same permutation of the four places.
-/
module

public import proofs.«01_k».proof.Kernel
public import proofs.«01_k».proof.Proof.Gen.Kernel
public import proofs.«01_k».proof.Proof.Reference
public import Idealize.ShloMosaic.Lib.Layout
public import Idealize.ShloMosaic.Lib.Quiescent

@[expose] public section

noncomputable section

namespace Cert.RouteProof.Claims

open Idealize.ShloMosaic Idealize.ShloMosaic.TcCoe Idealize.SL.Sem
open Idealize.ShloMosaic.ValueIdx (ix3)

/-! ## The two copies of the program -/

set_option maxRecDepth 65536 in
theorem main_eq (c : Dev 16) : Cert.Kernel.main (F := Bits) c = Cert.KernelIdeal.main (F := Bits) c := rfl

set_option maxRecDepth 65536 in
theorem kernels_eq : Cert.Kernel.defs₀ (F := Bits) = Cert.KernelIdeal.defs₀ (F := Bits) := by
  unfold Cert.Kernel.defs₀ Cert.KernelIdeal.defs₀
  congr 1; funext l a; obtain ⟨_ | _, h⟩ := l
  · rfl
  · exact absurd h (Nat.not_lt.2 (Nat.le_add_left _ _))

set_option maxRecDepth 65536 in
theorem defs_eq : Cert.Kernel.defs (F := Bits) = Cert.KernelIdeal.defs (F := Bits) := by
  unfold Cert.Kernel.defs Cert.KernelIdeal.defs
  rw [← kernels_eq]; rfl

/-! ## The kernel -/

theorem words_eq : (⟨0, ![]⟩ : Shape).BroadcastsInDim ⟨1, ![1]⟩ (![] : Fin 0 → Fin 1) := by decide
theorem words_join : Shape.Concatenates [⟨1, ![1]⟩, ⟨1, ![1]⟩, ⟨1, ![1]⟩, ⟨1, ![1]⟩] ⟨1, ![4]⟩ 0 := by decide

/-- The precondition's comparison of a table with a permutation's. -/
abbrev Lists (σ : Equiv.Perm (Fin 4)) (tb : Table) : Prop :=
  cmpi .eq tb (concatenate ⟨1, ![4]⟩ 0 [⟨⟨1, ![1]⟩, entry words_eq (BitVec.ofNat 32 (σ 0).val)⟩, ⟨⟨1, ![1]⟩, entry words_eq (BitVec.ofNat 32 (σ 1).val)⟩,
    ⟨⟨1, ![1]⟩, entry words_eq (BitVec.ofNat 32 (σ 2).val)⟩, ⟨⟨1, ![1]⟩, entry words_eq (BitVec.ofNat 32 (σ 3).val)⟩] words_join) = fun _ => 1#1

theorem Lists.eq {σ : Equiv.Perm (Fin 4)} {tb : Table} (h : Lists σ tb) : tb = names σ := names_of_ones σ words_eq words_join h

section
open Cert.KernelIdeal

variable {F : FTy → Type} [FloatOps F]

/-- The kernel's run under a permutation's tables. -/
theorem run_route (σ : Equiv.Perm (Fin 4)) (m : (ℓ : Loc nD τ sig) → Buf (Elt F) ℓ) (ρ : Dev nD → PrngReg)
    (h : ∀ c : Dev nD, Lists σ (m ((c.tc : Thread nD τ).loc main_arg1))) :
    θ_run defs (onTc (τ := τ) (main (F := F))) ⟨m, fun _ => 0, ρ⟩ (fun r => Routes m (route σ) r.2) :=
  run_main m (route σ) ρ fun c => by rw [show tbl m c = names σ from (h c).eq]; exact routed σ c

/-- The frame, at any float values. -/
theorem frame (σ : Equiv.Perm (Fin 4)) (m : (ℓ : Loc nD τ sig) → Buf (Elt F) ℓ) (ρ : Dev nD → PrngReg)
    (h : ∀ c : Dev nD, Lists σ (m ((c.tc : Thread nD τ).loc main_arg1))) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_route σ m ρ h)

end

section
open Cert.Kernel

/-- The frame of the kernel itself. -/
theorem frame_bits (σ : Equiv.Perm (Fin 4)) (m : (ℓ : Loc nD τ sig) → Buf (Elt Bits) ℓ) (ρ : Dev nD → PrngReg)
    (h : ∀ c : Dev nD, Lists σ (m ((c.tc : Thread nD τ).loc main_arg1))) :
    θ_run (defs (F := Bits)) (onTc (τ := τ) (main (F := Bits))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  rw [defs_eq, show main (F := Bits) = Cert.KernelIdeal.main (F := Bits) from funext main_eq]
  exact frame (F := Bits) σ m ρ h

end

/-! ## The reference -/

section
open Cert.ReferenceIdeal

theorem frame_reference (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Ref.run_main m ρ)

end

/-! ## The value -/

/-- Device `c`'s part of the whole array. -/
abbrev part {α : Type} (c : Dev 16) (x : (⟨3, ![4, 4096, 2048]⟩ : Shape).Idx → α) : (⟨3, ![1, 4096, 2048]⟩ : Shape).Idx → α :=
  Layout.blockN ⟨3, ![1, 4096, 2048]⟩ ⟨3, ![4, 4096, 2048]⟩ (Layout.meshBlock [2, 2, 4] ![[2], [], []] c) x

/-- A device's part is the block at its place. -/
theorem part_apply {α : Type} (c : Dev 16) (x : (⟨3, ![4, 4096, 2048]⟩ : Shape).Idx → α) (i : (⟨3, ![1, 4096, 2048]⟩ : Shape).Idx) :
    part c x i = x (ix3 (place c) (i 1) (i 2)) := by
  refine congrArg x (funext fun a => Fin.ext ?_)
  match a with
  | ⟨0, _⟩ =>
    have h0 : (i 0).val < 1 := (i 0).isLt
    show (c.val / 1 % 4 * 1 + 0) * 1 + (i 0).val = c.val % 4
    omega
  | ⟨1, _⟩ => show 0 * 4096 + (i 1).val = (i 1).val; omega
  | ⟨2, _⟩ => show 0 * 2048 + (i 2).val = (i 2).val; omega

/-- The part at the device a block comes from is the part, at the device it goes to, of the array reordered. -/
theorem part_result (σ : Equiv.Perm (Fin 4)) (c : Dev 16) (x : FVec Ideal ⟨3, ![4, 4096, 2048]⟩ .bf16) :
    part ((route σ).symm c) x = part c (Ref.result x (names σ)) := by
  funext i
  rw [part_apply, part_apply, Ref.result_apply]
  rw [show place ((route σ).symm c) = σ.symm (place c) from place_beside c _]

theorem value (σ : Equiv.Perm (Fin 4))
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : ∀ c : Dev Cert.KernelIdeal.nD, Lists σ (m ((c.tc : Thread Cert.KernelIdeal.nD Cert.KernelIdeal.τ).loc Cert.KernelIdeal.main_arg1)))
    (hargs : ∀ c : Dev Cert.KernelIdeal.nD,
      m ((c.tc : Thread Cert.KernelIdeal.nD Cert.KernelIdeal.τ).loc Cert.KernelIdeal.main_arg0)
        = part c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
        = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v9),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v1) = part c v
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩
        (fun r => r.2.mem (((0 : Dev Cert.ReferenceIdeal.nD).tc : Thread Cert.ReferenceIdeal.nD Cert.ReferenceIdeal.τ).loc Cert.ReferenceIdeal.main_v9) = v
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  have hpi := (hargs 0).2.symm.trans (h 0).eq
  refine ⟨Ref.result (F := Ideal) (m' (((0 : Dev Cert.ReferenceIdeal.nD).tc : Thread Cert.ReferenceIdeal.nD Cert.ReferenceIdeal.τ).loc Cert.ReferenceIdeal.main_arg0)) (names σ), ?_, ?_⟩
  · exact (θ_run Cert.KernelIdeal.defs _ _).mono
      (fun _ hr c => ⟨(hr.1 c).2.2.trans ((hargs ((route σ).symm c)).1.trans (part_result σ c _)), (hr.1 c).1, (hr.1 c).2.1⟩) (run_route σ m g h)
  · exact (θ_run Cert.ReferenceIdeal.defs _ _).mono (fun _ hr => ⟨(hr 0).1.trans (congrArg _ hpi), (hr 0).2⟩) (Ref.run_main m' g')

end Cert.RouteProof.Claims

end
-- ==== Proof.Orders.lean ====
/-
# The twenty-four orders of the four places

Each written with its inverse, under the name its precondition has.
-/
module

public import proofs.«01_k».proof.Proof.Claims

@[expose] public section

noncomputable section

namespace Cert.RouteProof.Order

abbrev p0123 : Equiv.Perm (Fin 4) := listed ![0, 1, 2, 3] ![0, 1, 2, 3]
abbrev p0132 : Equiv.Perm (Fin 4) := listed ![0, 1, 3, 2] ![0, 1, 3, 2]
abbrev p0213 : Equiv.Perm (Fin 4) := listed ![0, 2, 1, 3] ![0, 2, 1, 3]
abbrev p0231 : Equiv.Perm (Fin 4) := listed ![0, 2, 3, 1] ![0, 3, 1, 2]
abbrev p0312 : Equiv.Perm (Fin 4) := listed ![0, 3, 1, 2] ![0, 2, 3, 1]
abbrev p0321 : Equiv.Perm (Fin 4) := listed ![0, 3, 2, 1] ![0, 3, 2, 1]
abbrev p1023 : Equiv.Perm (Fin 4) := listed ![1, 0, 2, 3] ![1, 0, 2, 3]
abbrev p1032 : Equiv.Perm (Fin 4) := listed ![1, 0, 3, 2] ![1, 0, 3, 2]
abbrev p1203 : Equiv.Perm (Fin 4) := listed ![1, 2, 0, 3] ![2, 0, 1, 3]
abbrev p1230 : Equiv.Perm (Fin 4) := listed ![1, 2, 3, 0] ![3, 0, 1, 2]
abbrev p1302 : Equiv.Perm (Fin 4) := listed ![1, 3, 0, 2] ![2, 0, 3, 1]
abbrev p1320 : Equiv.Perm (Fin 4) := listed ![1, 3, 2, 0] ![3, 0, 2, 1]
abbrev p2013 : Equiv.Perm (Fin 4) := listed ![2, 0, 1, 3] ![1, 2, 0, 3]
abbrev p2031 : Equiv.Perm (Fin 4) := listed ![2, 0, 3, 1] ![1, 3, 0, 2]
abbrev p2103 : Equiv.Perm (Fin 4) := listed ![2, 1, 0, 3] ![2, 1, 0, 3]
abbrev p2130 : Equiv.Perm (Fin 4) := listed ![2, 1, 3, 0] ![3, 1, 0, 2]
abbrev p2301 : Equiv.Perm (Fin 4) := listed ![2, 3, 0, 1] ![2, 3, 0, 1]
abbrev p2310 : Equiv.Perm (Fin 4) := listed ![2, 3, 1, 0] ![3, 2, 0, 1]
abbrev p3012 : Equiv.Perm (Fin 4) := listed ![3, 0, 1, 2] ![1, 2, 3, 0]
abbrev p3021 : Equiv.Perm (Fin 4) := listed ![3, 0, 2, 1] ![1, 3, 2, 0]
abbrev p3102 : Equiv.Perm (Fin 4) := listed ![3, 1, 0, 2] ![2, 1, 3, 0]
abbrev p3120 : Equiv.Perm (Fin 4) := listed ![3, 1, 2, 0] ![3, 1, 2, 0]
abbrev p3201 : Equiv.Perm (Fin 4) := listed ![3, 2, 0, 1] ![2, 3, 1, 0]
abbrev p3210 : Equiv.Perm (Fin 4) := listed ![3, 2, 1, 0] ![3, 2, 1, 0]

end Cert.RouteProof.Order

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import proofs.«01_k».proof.Proof.Orders
public import Idealize.ShloMosaic.Adequacy
public import Idealize.ShloMosaic.Init

@[expose] public section

noncomputable section

namespace Cert.Proof

open Idealize.ShloMosaic Idealize.SL.Sem Cert.Kernel
open Cert.RouteProof.Claims Cert.RouteProof.Order

theorem claim : Cert.Claim := ⟨Cert.Kernel.Gen.facts, Cert.KernelIdeal.Gen.facts, Cert.ReferenceIdeal.Gen.facts, Cert.Pre_pi_is_0123_Kernel.Gen.facts, Cert.Pre_pi_is_0132_Kernel.Gen.facts, Cert.Pre_pi_is_0213_Kernel.Gen.facts, Cert.Pre_pi_is_0231_Kernel.Gen.facts, Cert.Pre_pi_is_0312_Kernel.Gen.facts, Cert.Pre_pi_is_0321_Kernel.Gen.facts, Cert.Pre_pi_is_1023_Kernel.Gen.facts, Cert.Pre_pi_is_1032_Kernel.Gen.facts, Cert.Pre_pi_is_1203_Kernel.Gen.facts, Cert.Pre_pi_is_1230_Kernel.Gen.facts, Cert.Pre_pi_is_1302_Kernel.Gen.facts, Cert.Pre_pi_is_1320_Kernel.Gen.facts, Cert.Pre_pi_is_2013_Kernel.Gen.facts, Cert.Pre_pi_is_2031_Kernel.Gen.facts, Cert.Pre_pi_is_2103_Kernel.Gen.facts, Cert.Pre_pi_is_2130_Kernel.Gen.facts, Cert.Pre_pi_is_2301_Kernel.Gen.facts, Cert.Pre_pi_is_2310_Kernel.Gen.facts, Cert.Pre_pi_is_3012_Kernel.Gen.facts, Cert.Pre_pi_is_3021_Kernel.Gen.facts, Cert.Pre_pi_is_3102_Kernel.Gen.facts, Cert.Pre_pi_is_3120_Kernel.Gen.facts, Cert.Pre_pi_is_3201_Kernel.Gen.facts, Cert.Pre_pi_is_3210_Kernel.Gen.facts, Cert.Pre_pi_is_0123_ReferenceIdeal.Gen.facts, Cert.Pre_pi_is_0132_ReferenceIdeal.Gen.facts, Cert.Pre_pi_is_0213_ReferenceIdeal.Gen.facts, Cert.Pre_pi_is_0231_ReferenceIdeal.Gen.facts, Cert.Pre_pi_is_0312_ReferenceIdeal.Gen.facts, Cert.Pre_pi_is_0321_ReferenceIdeal.Gen.facts, Cert.Pre_pi_is_1023_ReferenceIdeal.Gen.facts, Cert.Pre_pi_is_1032_ReferenceIdeal.Gen.facts, Cert.Pre_pi_is_1203_ReferenceIdeal.Gen.facts, Cert.Pre_pi_is_1230_ReferenceIdeal.Gen.facts, Cert.Pre_pi_is_1302_ReferenceIdeal.Gen.facts, Cert.Pre_pi_is_1320_ReferenceIdeal.Gen.facts, Cert.Pre_pi_is_2013_ReferenceIdeal.Gen.facts, Cert.Pre_pi_is_2031_ReferenceIdeal.Gen.facts, Cert.Pre_pi_is_2103_ReferenceIdeal.Gen.facts, Cert.Pre_pi_is_2130_ReferenceIdeal.Gen.facts, Cert.Pre_pi_is_2301_ReferenceIdeal.Gen.facts, Cert.Pre_pi_is_2310_ReferenceIdeal.Gen.facts, Cert.Pre_pi_is_3012_ReferenceIdeal.Gen.facts, Cert.Pre_pi_is_3021_ReferenceIdeal.Gen.facts, Cert.Pre_pi_is_3102_ReferenceIdeal.Gen.facts, Cert.Pre_pi_is_3120_ReferenceIdeal.Gen.facts, Cert.Pre_pi_is_3201_ReferenceIdeal.Gen.facts, Cert.Pre_pi_is_3210_ReferenceIdeal.Gen.facts,
  frame_bits p0123, frame_bits p0132, frame_bits p0213, frame_bits p0231, frame_bits p0312, frame_bits p0321, frame_bits p1023,
  frame_bits p1032, frame_bits p1203, frame_bits p1230, frame_bits p1302, frame_bits p1320, frame_bits p2013, frame_bits p2031,
  frame_bits p2103, frame_bits p2130, frame_bits p2301, frame_bits p2310, frame_bits p3012, frame_bits p3021, frame_bits p3102,
  frame_bits p3120, frame_bits p3201, frame_bits p3210,
  frame (F := Ideal) p0123, frame (F := Ideal) p0132, frame (F := Ideal) p0213, frame (F := Ideal) p0231, frame (F := Ideal) p0312,
  frame (F := Ideal) p0321, frame (F := Ideal) p1023, frame (F := Ideal) p1032, frame (F := Ideal) p1203, frame (F := Ideal) p1230,
  frame (F := Ideal) p1302, frame (F := Ideal) p1320, frame (F := Ideal) p2013, frame (F := Ideal) p2031, frame (F := Ideal) p2103,
  frame (F := Ideal) p2130, frame (F := Ideal) p2301, frame (F := Ideal) p2310, frame (F := Ideal) p3012, frame (F := Ideal) p3021,
  frame (F := Ideal) p3102, frame (F := Ideal) p3120, frame (F := Ideal) p3201, frame (F := Ideal) p3210,
  fun m g _ => frame_reference m g, fun m g _ => frame_reference m g, fun m g _ => frame_reference m g, fun m g _ => frame_reference m g,
  fun m g _ => frame_reference m g, fun m g _ => frame_reference m g, fun m g _ => frame_reference m g, fun m g _ => frame_reference m g,
  fun m g _ => frame_reference m g, fun m g _ => frame_reference m g, fun m g _ => frame_reference m g, fun m g _ => frame_reference m g,
  fun m g _ => frame_reference m g, fun m g _ => frame_reference m g, fun m g _ => frame_reference m g, fun m g _ => frame_reference m g,
  fun m g _ => frame_reference m g, fun m g _ => frame_reference m g, fun m g _ => frame_reference m g, fun m g _ => frame_reference m g,
  fun m g _ => frame_reference m g, fun m g _ => frame_reference m g, fun m g _ => frame_reference m g, fun m g _ => frame_reference m g,
  fun m g _ => frame_reference m g,
  trivial,
  value p0123, value p0132, value p0213, value p0231, value p0312, value p0321, value p1023, value p1032, value p1203, value p1230,
  value p1302, value p1320, value p2013, value p2031, value p2103, value p2130, value p2301, value p2310, value p3012, value p3021,
  value p3102, value p3120, value p3201, value p3210⟩

end Cert.Proof

end
